-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S1x2048x1024 : Shape := ⟨3, ![1, 2048, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S8 : Shape := ⟨1, ![8]⟩
abbrev S_ : Shape := ⟨0, ![]⟩

class Facts : Prop where
  bcast_S_S1x2048x1024 : S_.BroadcastsInDim S1x2048x1024 (![] : Fin 0 → Fin S1x2048x1024.rank)
  bcast_S_S8x1024 : S_.BroadcastsInDim S8x1024 (![] : Fin 0 → Fin S8x1024.rank)
  bcast_S_S8 : S_.BroadcastsInDim S8 (![] : Fin 0 → Fin S8.rank)

variable [Facts]

def fn {F : FTy → Type} [FloatOps F] (main_arg0 : FVec F S1x2048x1024 .f32) (main_arg1 : FVec F S8x4096x1024 .f32) (main_arg2 : FVec F S8x4096 .f32) (main_arg3 : FVec F S8x1024x4096 .f32) (main_arg4 : FVec F S8x1024 .f32) (main_arg5 : FVec F S8x1024 .f32) (main_arg6 : FVec F S8 .f32) : IVec S1x2048x1024 1 × IVec S1x2048x1024 1 × IVec S8x1024 1 × IVec S8x1024 1 × IVec S8 1 × IVec S8 1 :=
  let main_cst : FVec F S_ .f32 := constant S_ .f32 0xFF800000#32
  let main_v0 : FVec F S1x2048x1024 .f32 := broadcastInDim S1x2048x1024 ![] bcast_S_S1x2048x1024 main_cst
  let main_v1 : IVec S1x2048x1024 1 := cmpf .ogt main_arg0 main_v0
  let main_cst_0 : FVec F S_ .f32 := constant S_ .f32 0x7F800000#32
  let main_v2 : FVec F S1x2048x1024 .f32 := broadcastInDim S1x2048x1024 ![] bcast_S_S1x2048x1024 main_cst_0
  let main_v3 : IVec S1x2048x1024 1 := cmpf .olt main_arg0 main_v2
  let main_cst_1 : FVec F S_ .f32 := constant S_ .f32 0xFF800000#32
  let main_v4 : FVec F S8x1024 .f32 := broadcastInDim S8x1024 ![] bcast_S_S8x1024 main_cst_1
  let main_v5 : IVec S8x1024 1 := cmpf .ogt main_arg5 main_v4
  let main_cst_2 : FVec F S_ .f32 := constant S_ .f32 0x7F800000#32
  let main_v6 : FVec F S8x1024 .f32 := broadcastInDim S8x1024 ![] bcast_S_S8x1024 main_cst_2
  let main_v7 : IVec S8x1024 1 := cmpf .olt main_arg5 main_v6
  let main_cst_3 : FVec F S_ .f32 := constant S_ .f32 0xFF800000#32
  let main_v8 : FVec F S8 .f32 := broadcastInDim S8 ![] bcast_S_S8 main_cst_3
  let main_v9 : IVec S8 1 := cmpf .ogt main_arg6 main_v8
  let main_cst_4 : FVec F S_ .f32 := constant S_ .f32 0x7F800000#32
  let main_v10 : FVec F S8 .f32 := broadcastInDim S8 ![] bcast_S_S8 main_cst_4
  let main_v11 : IVec S8 1 := cmpf .olt main_arg6 main_v10
  (main_v1, main_v3, main_v5, main_v7, main_v9, main_v11)
-- ==== Kernel.lean ====
abbrev S1x2048x1024 : Shape := ⟨3, ![1, 2048, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S8 : Shape := ⟨1, ![8]⟩
abbrev S2048x1024 : Shape := ⟨2, ![2048, 1024]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S8x1x4096 : Shape := ⟨3, ![8, 1, 4096]⟩
abbrev S8x1x1024 : Shape := ⟨3, ![8, 1, 1024]⟩
abbrev S512x1024 : Shape := ⟨2, ![512, 1024]⟩
abbrev S1x1024x4096 : Shape := ⟨3, ![1, 1024, 4096]⟩
abbrev S1x1x4096 : Shape := ⟨3, ![1, 1, 4096]⟩
abbrev S1x4096x1024 : Shape := ⟨3, ![1, 4096, 1024]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S1x4096 : Shape := ⟨2, ![1, 4096]⟩
abbrev S4096x1024 : Shape := ⟨2, ![4096, 1024]⟩
abbrev S1x1024 : Shape := ⟨2, ![1, 1024]⟩

abbrev nBuf : Space → Nat
  | .hbm => 23
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S8x4096x1024, .f32⟩
  | .hbm, ⟨2, _⟩ => ⟨S8x4096, .f32⟩
  | .hbm, ⟨3, _⟩ => ⟨S8x1024x4096, .f32⟩
  | .hbm, ⟨4, _⟩ => ⟨S8x1024, .f32⟩
  | .hbm, ⟨5, _⟩ => ⟨S8x1024, .f32⟩
  | .hbm, ⟨6, _⟩ => ⟨S8, .f32⟩
  | .hbm, ⟨7, _⟩ => ⟨S2048x1024, .f32⟩
  | .hbm, ⟨8, _⟩ => ⟨S8x1024x4096, .f32⟩
  | .hbm, ⟨9, _⟩ => ⟨S8x1024x4096, .bf16⟩
  | .hbm, ⟨10, _⟩ => ⟨S8x4096x1024, .f32⟩
  | .hbm, ⟨11, _⟩ => ⟨S8x4096x1024, .bf16⟩
  | .hbm, ⟨12, _⟩ => ⟨S1024x8, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S8x1x4096, .f32⟩
  | .hbm, ⟨21, _⟩ => ⟨S8x1x1024, .f32⟩
  | .hbm, ⟨22, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024x4096, .bf16⟩
  | .local _ .vmem, ⟨3, _⟩ => ⟨S1x1024x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096x1024, .bf16⟩
  | .local _ .vmem, ⟨7, _⟩ => ⟨S1x4096x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1024x128, .f32⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_cst : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S8 : Shape := ⟨1, ![8]⟩
abbrev S1x2048x8 : Shape := ⟨3, ![1, 2048, 8]⟩
abbrev S1x1x8 : Shape := ⟨3, ![1, 1, 8]⟩
abbrev S_ : Shape := ⟨0, ![]⟩
abbrev S1x2048 : Shape := ⟨2, ![1, 2048]⟩
abbrev S1x2048x1 : Shape := ⟨3, ![1, 2048, 1]⟩
abbrev S1x2048x2 : Shape := ⟨3, ![1, 2048, 2]⟩
abbrev S1x4096x1024 : Shape := ⟨3, ![1, 4096, 1024]⟩
abbrev S4096x1024 : Shape := ⟨2, ![4096, 1024]⟩
abbrev S1x2048x4096 : Shape := ⟨3, ![1, 2048, 4096]⟩
abbrev S1x4096 : Shape := ⟨2, ![1, 4096]⟩
abbrev S4096 : Shape := ⟨1, ![4096]⟩
abbrev S1x1x4096 : Shape := ⟨3, ![1, 1, 4096]⟩
abbrev S1x1024x4096 : Shape := ⟨3, ![1, 1024, 4096]⟩
abbrev S1024x4096 : Shape := ⟨2, ![1024, 4096]⟩
abbrev S1x1024 : Shape := ⟨2, ![1, 1024]⟩
abbrev S1024 : Shape := ⟨1, ![1024]⟩
abbrev S1x1x1024 : Shape := ⟨3, ![1, 1, 1024]⟩
abbrev S2048x1024 : Shape := ⟨2, ![2048, 1024]⟩

abbrev nBuf : Space → Nat
  | .hbm => 286
  | .vmem => 0
  | .smem => 0
  | _ => 0

abbrev hbmTy0_0 (i : Nat) : BufTy := match i % 128 with
  | 0 => ⟨S1x2048x1024, .f32⟩
  | 1 => ⟨S8x4096x1024, .f32⟩
  | 2 => ⟨S8x4096, .f32⟩
  | 3 => ⟨S8x1024x4096, .f32⟩
  | 4 => ⟨S8x1024, .f32⟩
  | 5 => ⟨S8x1024, .f32⟩
  | 6 => ⟨S8, .f32⟩
  | 7 => ⟨S1x2048x8, .f32⟩
  | 8 => ⟨S1x1x8, .f32⟩
  | 9 => ⟨S1x2048x8, .f32⟩
  | 10 => ⟨S1x2048x8, .f32⟩
  | 11 => ⟨S_, .f32⟩
  | 12 => ⟨S1x2048, .f32⟩
  | 13 => ⟨S_, .f32⟩
  | 14 => ⟨S1x2048, .f32⟩
  | 15 => ⟨S1x2048, .f32⟩
  | 16 => ⟨S1x2048x1, .f32⟩
  | 17 => ⟨S1x2048x8, .f32⟩
  | 18 => ⟨S1x2048x8, .f32⟩
  | 19 => ⟨S1x2048x8, .f32⟩
  | 20 => ⟨S_, .f32⟩
  | 21 => ⟨S1x2048, .f32⟩
  | 22 => ⟨S1x2048x1, .f32⟩
  | 23 => ⟨S1x2048x8, .f32⟩
  | 24 => ⟨S1x2048x8, .f32⟩
  | 25 => ⟨S1x2048x2, .f32⟩
  | 26 => ⟨S1x2048x2, .i32⟩
  | 27 => ⟨S_, .f32⟩
  | 28 => ⟨S1x2048x1024, .f32⟩
  | 29 => ⟨S1x4096x1024, .f32⟩
  | 30 => ⟨S4096x1024, .f32⟩
  | 31 => ⟨S1x2048x4096, .f32⟩
  | 32 => ⟨S1x4096, .f32⟩
  | 33 => ⟨S4096, .f32⟩
  | 34 => ⟨S1x1x4096, .f32⟩
  | 35 => ⟨S1x2048x4096, .f32⟩
  | 36 => ⟨S1x2048x4096, .f32⟩
  | 37 => ⟨S_, .f32⟩
  | 38 => ⟨S1x2048x4096, .f32⟩
  | 39 => ⟨S1x2048x4096, .f32⟩
  | 40 => ⟨S1x1024x4096, .f32⟩
  | 41 => ⟨S1024x4096, .f32⟩
  | 42 => ⟨S1x2048x1024, .f32⟩
  | 43 => ⟨S1x1024, .f32⟩
  | 44 => ⟨S1024, .f32⟩
  | 45 => ⟨S1x1x1024, .f32⟩
  | 46 => ⟨S1x2048x1024, .f32⟩
  | 47 => ⟨S1x2048x1024, .f32⟩
  | 48 => ⟨S_, .i32⟩
  | 49 => ⟨S1x2048x2, .i32⟩
  | 50 => ⟨S1x2048x2, .i1⟩
  | 51 => ⟨S_, .f32⟩
  | 52 => ⟨S_, .f32⟩
  | 53 => ⟨S1x2048x2, .f32⟩
  | 54 => ⟨S1x2048x2, .f32⟩
  | 55 => ⟨S_, .f32⟩
  | 56 => ⟨S1x2048, .f32⟩
  | 57 => ⟨S1x2048x1, .f32⟩
  | 58 => ⟨S1x2048x1024, .f32⟩
  | 59 => ⟨S1x2048x1024, .f32⟩
  | 60 => ⟨S1x2048x1024, .f32⟩
  | 61 => ⟨S1x4096x1024, .f32⟩
  | 62 => ⟨S4096x1024, .f32⟩
  | 63 => ⟨S1x2048x4096, .f32⟩
  | 64 => ⟨S1x4096, .f32⟩
  | 65 => ⟨S4096, .f32⟩
  | 66 => ⟨S1x1x4096, .f32⟩
  | 67 => ⟨S1x2048x4096, .f32⟩
  | 68 => ⟨S1x2048x4096, .f32⟩
  | 69 => ⟨S_, .f32⟩
  | 70 => ⟨S1x2048x4096, .f32⟩
  | 71 => ⟨S1x2048x4096, .f32⟩
  | 72 => ⟨S1x1024x4096, .f32⟩
  | 73 => ⟨S1024x4096, .f32⟩
  | 74 => ⟨S1x2048x1024, .f32⟩
  | 75 => ⟨S1x1024, .f32⟩
  | 76 => ⟨S1024, .f32⟩
  | 77 => ⟨S1x1x1024, .f32⟩
  | 78 => ⟨S1x2048x1024, .f32⟩
  | 79 => ⟨S1x2048x1024, .f32⟩
  | 80 => ⟨S_, .i32⟩
  | 81 => ⟨S1x2048x2, .i32⟩
  | 82 => ⟨S1x2048x2, .i1⟩
  | 83 => ⟨S_, .f32⟩
  | 84 => ⟨S_, .f32⟩
  | 85 => ⟨S1x2048x2, .f32⟩
  | 86 => ⟨S1x2048x2, .f32⟩
  | 87 => ⟨S_, .f32⟩
  | 88 => ⟨S1x2048, .f32⟩
  | 89 => ⟨S1x2048x1, .f32⟩
  | 90 => ⟨S1x2048x1024, .f32⟩
  | 91 => ⟨S1x2048x1024, .f32⟩
  | 92 => ⟨S1x2048x1024, .f32⟩
  | 93 => ⟨S1x4096x1024, .f32⟩
  | 94 => ⟨S4096x1024, .f32⟩
  | 95 => ⟨S1x2048x4096, .f32⟩
  | 96 => ⟨S1x4096, .f32⟩
  | 97 => ⟨S4096, .f32⟩
  | 98 => ⟨S1x1x4096, .f32⟩
  | 99 => ⟨S1x2048x4096, .f32⟩
  | 100 => ⟨S1x2048x4096, .f32⟩
  | 101 => ⟨S_, .f32⟩
  | 102 => ⟨S1x2048x4096, .f32⟩
  | 103 => ⟨S1x2048x4096, .f32⟩
  | 104 => ⟨S1x1024x4096, .f32⟩
  | 105 => ⟨S1024x4096, .f32⟩
  | 106 => ⟨S1x2048x1024, .f32⟩
  | 107 => ⟨S1x1024, .f32⟩
  | 108 => ⟨S1024, .f32⟩
  | 109 => ⟨S1x1x1024, .f32⟩
  | 110 => ⟨S1x2048x1024, .f32⟩
  | 111 => ⟨S1x2048x1024, .f32⟩
  | 112 => ⟨S_, .i32⟩
  | 113 => ⟨S1x2048x2, .i32⟩
  | 114 => ⟨S1x2048x2, .i1⟩
  | 115 => ⟨S_, .f32⟩
  | 116 => ⟨S_, .f32⟩
  | 117 => ⟨S1x2048x2, .f32⟩
  | 118 => ⟨S1x2048x2, .f32⟩
  | 119 => ⟨S_, .f32⟩
  | 120 => ⟨S1x2048, .f32⟩
  | 121 => ⟨S1x2048x1, .f32⟩
  | 122 => ⟨S1x2048x1024, .f32⟩
  | 123 => ⟨S1x2048x1024, .f32⟩
  | 124 => ⟨S1x2048x1024, .f32⟩
  | 125 => ⟨S1x4096x1024, .f32⟩
  | 126 => ⟨S4096x1024, .f32⟩
  | 127 => ⟨S1x2048x4096, .f32⟩
  | _ => ⟨S1x2048x1024, .f32⟩

abbrev hbmTy0_1 (i : Nat) : BufTy := match i % 128 with
  | 0 => ⟨S1x4096, .f32⟩
  | 1 => ⟨S4096, .f32⟩
  | 2 => ⟨S1x1x4096, .f32⟩
  | 3 => ⟨S1x2048x4096, .f32⟩
  | 4 => ⟨S1x2048x4096, .f32⟩
  | 5 => ⟨S_, .f32⟩
  | 6 => ⟨S1x2048x4096, .f32⟩
  | 7 => ⟨S1x2048x4096, .f32⟩
  | 8 => ⟨S1x1024x4096, .f32⟩
  | 9 => ⟨S1024x4096, .f32⟩
  | 10 => ⟨S1x2048x1024, .f32⟩
  | 11 => ⟨S1x1024, .f32⟩
  | 12 => ⟨S1024, .f32⟩
  | 13 => ⟨S1x1x1024, .f32⟩
  | 14 => ⟨S1x2048x1024, .f32⟩
  | 15 => ⟨S1x2048x1024, .f32⟩
  | 16 => ⟨S_, .i32⟩
  | 17 => ⟨S1x2048x2, .i32⟩
  | 18 => ⟨S1x2048x2, .i1⟩
  | 19 => ⟨S_, .f32⟩
  | 20 => ⟨S_, .f32⟩
  | 21 => ⟨S1x2048x2, .f32⟩
  | 22 => ⟨S1x2048x2, .f32⟩
  | 23 => ⟨S_, .f32⟩
  | 24 => ⟨S1x2048, .f32⟩
  | 25 => ⟨S1x2048x1, .f32⟩
  | 26 => ⟨S1x2048x1024, .f32⟩
  | 27 => ⟨S1x2048x1024, .f32⟩
  | 28 => ⟨S1x2048x1024, .f32⟩
  | 29 => ⟨S1x4096x1024, .f32⟩
  | 30 => ⟨S4096x1024, .f32⟩
  | 31 => ⟨S1x2048x4096, .f32⟩
  | 32 => ⟨S1x4096, .f32⟩
  | 33 => ⟨S4096, .f32⟩
  | 34 => ⟨S1x1x4096, .f32⟩
  | 35 => ⟨S1x2048x4096, .f32⟩
  | 36 => ⟨S1x2048x4096, .f32⟩
  | 37 => ⟨S_, .f32⟩
  | 38 => ⟨S1x2048x4096, .f32⟩
  | 39 => ⟨S1x2048x4096, .f32⟩
  | 40 => ⟨S1x1024x4096, .f32⟩
  | 41 => ⟨S1024x4096, .f32⟩
  | 42 => ⟨S1x2048x1024, .f32⟩
  | 43 => ⟨S1x1024, .f32⟩
  | 44 => ⟨S1024, .f32⟩
  | 45 => ⟨S1x1x1024, .f32⟩
  | 46 => ⟨S1x2048x1024, .f32⟩
  | 47 => ⟨S1x2048x1024, .f32⟩
  | 48 => ⟨S_, .i32⟩
  | 49 => ⟨S1x2048x2, .i32⟩
  | 50 => ⟨S1x2048x2, .i1⟩
  | 51 => ⟨S_, .f32⟩
  | 52 => ⟨S_, .f32⟩
  | 53 => ⟨S1x2048x2, .f32⟩
  | 54 => ⟨S1x2048x2, .f32⟩
  | 55 => ⟨S_, .f32⟩
  | 56 => ⟨S1x2048, .f32⟩
  | 57 => ⟨S1x2048x1, .f32⟩
  | 58 => ⟨S1x2048x1024, .f32⟩
  | 59 => ⟨S1x2048x1024, .f32⟩
  | 60 => ⟨S1x2048x1024, .f32⟩
  | 61 => ⟨S1x4096x1024, .f32⟩
  | 62 => ⟨S4096x1024, .f32⟩
  | 63 => ⟨S1x2048x4096, .f32⟩
  | 64 => ⟨S1x4096, .f32⟩
  | 65 => ⟨S4096, .f32⟩
  | 66 => ⟨S1x1x4096, .f32⟩
  | 67 => ⟨S1x2048x4096, .f32⟩
  | 68 => ⟨S1x2048x4096, .f32⟩
  | 69 => ⟨S_, .f32⟩
  | 70 => ⟨S1x2048x4096, .f32⟩
  | 71 => ⟨S1x2048x4096, .f32⟩
  | 72 => ⟨S1x1024x4096, .f32⟩
  | 73 => ⟨S1024x4096, .f32⟩
  | 74 => ⟨S1x2048x1024, .f32⟩
  | 75 => ⟨S1x1024, .f32⟩
  | 76 => ⟨S1024, .f32⟩
  | 77 => ⟨S1x1x1024, .f32⟩
  | 78 => ⟨S1x2048x1024, .f32⟩
  | 79 => ⟨S1x2048x1024, .f32⟩
  | 80 => ⟨S_, .i32⟩
  | 81 => ⟨S1x2048x2, .i32⟩
  | 82 => ⟨S1x2048x2, .i1⟩
  | 83 => ⟨S_, .f32⟩
  | 84 => ⟨S_, .f32⟩
  | 85 => ⟨S1x2048x2, .f32⟩
  | 86 => ⟨S1x2048x2, .f32⟩
  | 87 => ⟨S_, .f32⟩
  | 88 => ⟨S1x2048, .f32⟩
  | 89 => ⟨S1x2048x1, .f32⟩
  | 90 => ⟨S1x2048x1024, .f32⟩
  | 91 => ⟨S1x2048x1024, .f32⟩
  | 92 => ⟨S1x2048x1024, .f32⟩
  | 93 => ⟨S1x4096x1024, .f32⟩
  | 94 => ⟨S4096x1024, .f32⟩
  | 95 => ⟨S1x2048x4096, .f32⟩
  | 96 => ⟨S1x4096, .f32⟩
  | 97 => ⟨S4096, .f32⟩
  | 98 => ⟨S1x1x4096, .f32⟩
  | 99 => ⟨S1x2048x4096, .f32⟩
  | 100 => ⟨S1x2048x4096, .f32⟩
  | 101 => ⟨S_, .f32⟩
  | 102 => ⟨S1x2048x4096, .f32⟩
  | 103 => ⟨S1x2048x4096, .f32⟩
  | 104 => ⟨S1x1024x4096, .f32⟩
  | 105 => ⟨S1024x4096, .f32⟩
  | 106 => ⟨S1x2048x1024, .f32⟩
  | 107 => ⟨S1x1024, .f32⟩
  | 108 => ⟨S1024, .f32⟩
  | 109 => ⟨S1x1x1024, .f32⟩
  | 110 => ⟨S1x2048x1024, .f32⟩
  | 111 => ⟨S1x2048x1024, .f32⟩
  | 112 => ⟨S_, .i32⟩
  | 113 => ⟨S1x2048x2, .i32⟩
  | 114 => ⟨S1x2048x2, .i1⟩
  | 115 => ⟨S_, .f32⟩
  | 116 => ⟨S_, .f32⟩
  | 117 => ⟨S1x2048x2, .f32⟩
  | 118 => ⟨S1x2048x2, .f32⟩
  | 119 => ⟨S_, .f32⟩
  | 120 => ⟨S1x2048, .f32⟩
  | 121 => ⟨S1x2048x1, .f32⟩
  | 122 => ⟨S1x2048x1024, .f32⟩
  | 123 => ⟨S1x2048x1024, .f32⟩
  | 124 => ⟨S1x2048x1024, .f32⟩
  | 125 => ⟨S1x4096x1024, .f32⟩
  | 126 => ⟨S4096x1024, .f32⟩
  | 127 => ⟨S1x2048x4096, .f32⟩
  | _ => ⟨S1x2048x1024, .f32⟩

abbrev hbmTy0_2 (i : Nat) : BufTy := match i % 128 with
  | 0 => ⟨S1x4096, .f32⟩
  | 1 => ⟨S4096, .f32⟩
  | 2 => ⟨S1x1x4096, .f32⟩
  | 3 => ⟨S1x2048x4096, .f32⟩
  | 4 => ⟨S1x2048x4096, .f32⟩
  | 5 => ⟨S_, .f32⟩
  | 6 => ⟨S1x2048x4096, .f32⟩
  | 7 => ⟨S1x2048x4096, .f32⟩
  | 8 => ⟨S1x1024x4096, .f32⟩
  | 9 => ⟨S1024x4096, .f32⟩
  | 10 => ⟨S1x2048x1024, .f32⟩
  | 11 => ⟨S1x1024, .f32⟩
  | 12 => ⟨S1024, .f32⟩
  | 13 => ⟨S1x1x1024, .f32⟩
  | 14 => ⟨S1x2048x1024, .f32⟩
  | 15 => ⟨S1x2048x1024, .f32⟩
  | 16 => ⟨S_, .i32⟩
  | 17 => ⟨S1x2048x2, .i32⟩
  | 18 => ⟨S1x2048x2, .i1⟩
  | 19 => ⟨S_, .f32⟩
  | 20 => ⟨S_, .f32⟩
  | 21 => ⟨S1x2048x2, .f32⟩
  | 22 => ⟨S1x2048x2, .f32⟩
  | 23 => ⟨S_, .f32⟩
  | 24 => ⟨S1x2048, .f32⟩
  | 25 => ⟨S1x2048x1, .f32⟩
  | 26 => ⟨S1x2048x1024, .f32⟩
  | 27 => ⟨S1x2048x1024, .f32⟩
  | 28 => ⟨S1x2048x1024, .f32⟩
  | 29 => ⟨S2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_values : Ref sig .tc := ⟨.hbm, 25, rfl⟩
abbrev main_indices : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call2_cst : Ref sig .tc := ⟨.hbm, 69, rfl⟩
abbrev main_call2_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_5 : Ref sig .tc := ⟨.hbm, 80, rfl⟩
abbrev main_v58 : Ref sig .tc := ⟨.hbm, 81, rfl⟩
abbrev main_v59 : Ref sig .tc := ⟨.hbm, 82, rfl⟩
abbrev main_cst_6 : Ref sig .tc := ⟨.hbm, 83, rfl⟩
abbrev main_call3_v0 : Ref sig .tc := ⟨.hbm, 84, rfl⟩
abbrev main_call3_v1 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call4_cst : Ref sig .tc := ⟨.hbm, 101, rfl⟩
abbrev main_call4_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_8 : Ref sig .tc := ⟨.hbm, 112, rfl⟩
abbrev main_v83 : Ref sig .tc := ⟨.hbm, 113, rfl⟩
abbrev main_v84 : Ref sig .tc := ⟨.hbm, 114, rfl⟩
abbrev main_cst_9 : Ref sig .tc := ⟨.hbm, 115, rfl⟩
abbrev main_call5_v0 : Ref sig .tc := ⟨.hbm, 116, rfl⟩
abbrev main_call5_v1 : Ref sig .tc := ⟨.hbm, 117, rfl⟩
abbrev main_v85 : Ref sig .tc := ⟨.hbm, 118, rfl⟩
abbrev main_cst_10 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call6_cst : Ref sig .tc := ⟨.hbm, 133, rfl⟩
abbrev main_call6_v0 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_11 : Ref sig .tc := ⟨.hbm, 144, rfl⟩
abbrev main_v108 : Ref sig .tc := ⟨.hbm, 145, rfl⟩
abbrev main_v109 : Ref sig .tc := ⟨.hbm, 146, rfl⟩
abbrev main_cst_12 : Ref sig .tc := ⟨.hbm, 147, rfl⟩
abbrev main_call7_v0 : Ref sig .tc := ⟨.hbm, 148, rfl⟩
abbrev main_call7_v1 : Ref sig .tc := ⟨.hbm, 149, rfl⟩
abbrev main_v110 : Ref sig .tc := ⟨.hbm, 150, rfl⟩
abbrev main_cst_13 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call8_cst : Ref sig .tc := ⟨.hbm, 165, rfl⟩
abbrev main_call8_v0 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_14 : Ref sig .tc := ⟨.hbm, 176, rfl⟩
abbrev main_v133 : Ref sig .tc := ⟨.hbm, 177, rfl⟩
abbrev main_v134 : Ref sig .tc := ⟨.hbm, 178, rfl⟩
abbrev main_cst_15 : Ref sig .tc := ⟨.hbm, 179, rfl⟩
abbrev main_call9_v0 : Ref sig .tc := ⟨.hbm, 180, rfl⟩
abbrev main_call9_v1 : Ref sig .tc := ⟨.hbm, 181, rfl⟩
abbrev main_v135 : Ref sig .tc := ⟨.hbm, 182, rfl⟩
abbrev main_cst_16 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_call10_cst : Ref sig .tc := ⟨.hbm, 197, rfl⟩
abbrev main_call10_v0 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_c_17 : Ref sig .tc := ⟨.hbm, 208, rfl⟩
abbrev main_v158 : Ref sig .tc := ⟨.hbm, 209, rfl⟩
abbrev main_v159 : Ref sig .tc := ⟨.hbm, 210, rfl⟩
abbrev main_cst_18 : Ref sig .tc := ⟨.hbm, 211, rfl⟩
abbrev main_call11_v0 : Ref sig .tc := ⟨.hbm, 212, rfl⟩
abbrev main_call11_v1 : Ref sig .tc := ⟨.hbm, 213, rfl⟩
abbrev main_v160 : Ref sig .tc := ⟨.hbm, 214, rfl⟩
abbrev main_cst_19 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_call12_cst : Ref sig .tc := ⟨.hbm, 229, rfl⟩
abbrev main_call12_v0 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_c_20 : Ref sig .tc := ⟨.hbm, 240, rfl⟩
abbrev main_v183 : Ref sig .tc := ⟨.hbm, 241, rfl⟩
abbrev main_v184 : Ref sig .tc := ⟨.hbm, 242, rfl⟩
abbrev main_cst_21 : Ref sig .tc := ⟨.hbm, 243, rfl⟩
abbrev main_call13_v0 : Ref sig .tc := ⟨.hbm, 244, rfl⟩
abbrev main_call13_v1 : Ref sig .tc := ⟨.hbm, 245, rfl⟩
abbrev main_v185 : Ref sig .tc := ⟨.hbm, 246, rfl⟩
abbrev main_cst_22 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_call14_cst : Ref sig .tc := ⟨.hbm, 261, rfl⟩
abbrev main_call14_v0 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_c_23 : Ref sig .tc := ⟨.hbm, 272, rfl⟩
abbrev main_v208 : Ref sig .tc := ⟨.hbm, 273, rfl⟩
abbrev main_v209 : Ref sig .tc := ⟨.hbm, 274, rfl⟩
abbrev main_cst_24 : Ref sig .tc := ⟨.hbm, 275, rfl⟩
abbrev main_call15_v0 : Ref sig .tc := ⟨.hbm, 276, rfl⟩
abbrev main_call15_v1 : Ref sig .tc := ⟨.hbm, 277, rfl⟩
abbrev main_v210 : Ref sig .tc := ⟨.hbm, 278, rfl⟩
abbrev main_cst_25 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩

abbrev nD : Nat := 1
abbrev τ : Topo := Topo.v7x

variable {F : FTy → Type} [FloatOps F]
-- ==== Proof.TopTwo.lean ====
/-
  The two greatest of eight real scores, the earlier position first where two are equal: what they are, that they
  exist, and that a stable descending sort of the positions begins with them.
-/
module

public import Idealize.ShloMosaic.Lib.SortPrefix
public import Mathlib.Data.Real.Basic
public import Mathlib.Data.Finset.Max

@[expose] public section

noncomputable section

namespace Cert.Proof.TopTwo

open Idealize.ShloMosaic

/-- Of the scores `r`, `a` is the first greatest and `b` is the first greatest of all the others. -/
structure IsTop2 (r : Fin 8 → ℝ) (a b : Fin 8) : Prop where
  ne : b ≠ a
  le_a : ∀ j, r j ≤ r a
  lt_a : ∀ j, j < a → r j < r a
  le_b : ∀ j, j ≠ a → r j ≤ r b
  lt_b : ∀ j, j ≠ a → j < b → r j < r b

/-- In a nonempty set of positions one is the first of those with the greatest score. -/
theorem exists_first_max (r : Fin 8 → ℝ) (s : Finset (Fin 8)) (hs : s.Nonempty) :
    ∃ a ∈ s, (∀ j ∈ s, r j ≤ r a) ∧ ∀ j ∈ s, j < a → r j < r a := by
  obtain ⟨m, hm, hmax⟩ := s.exists_max_image r hs
  have hne : (s.filter fun j => r j = r m).Nonempty := ⟨m, Finset.mem_filter.mpr ⟨hm, rfl⟩⟩
  obtain ⟨ha, hra⟩ := Finset.mem_filter.mp (Finset.min'_mem _ hne)
  refine ⟨_, ha, fun j hj => (hmax j hj).trans_eq hra.symm, fun j hj hlt => ?_⟩
  refine lt_of_le_of_ne ((hmax j hj).trans_eq hra.symm) fun he => ?_
  exact absurd (Finset.min'_le _ j (Finset.mem_filter.mpr ⟨hj, he.trans hra⟩)) (not_le.mpr hlt)

/-- Eight scores have a first and a second. -/
theorem exists_top2 (r : Fin 8 → ℝ) : ∃ a b, IsTop2 r a b := by
  obtain ⟨a, -, h1, h2⟩ := exists_first_max r Finset.univ ⟨0, Finset.mem_univ _⟩
  have hne : (Finset.univ.erase a).Nonempty := by
    rw [← Finset.card_pos, Finset.card_erase_of_mem (Finset.mem_univ a)]; decide
  obtain ⟨b, hb, h3, h4⟩ := exists_first_max r (Finset.univ.erase a) hne
  exact ⟨a, b, Finset.ne_of_mem_erase hb, fun j => h1 j (Finset.mem_univ j), fun j => h2 j (Finset.mem_univ j),
    fun j hj => h3 j (Finset.mem_erase.mpr ⟨hj, Finset.mem_univ j⟩),
    fun j hj => h4 j (Finset.mem_erase.mpr ⟨hj, Finset.mem_univ j⟩)⟩

/-! ## The stable descending sort -/

/-- "A greater score" alone. -/
def above (r : Fin 8 → ℝ) (k k' : Fin 8) : Bool := decide (r k' < r k)

/-- "A greater score, or the same score at an earlier position". -/
def aboveOrFirst (r : Fin 8 → ℝ) (k k' : Fin 8) : Bool :=
  decide (r k' < r k) || (decide (r k = r k') && decide (k < k'))

/-- The second relation orders the positions strictly and totally. -/
theorem aboveOrFirst_total (r : Fin 8 → ℝ) : StrictTotalBefore (aboveOrFirst r) :=
  StrictTotalBefore.of_key_then_position (fun x y : ℝ => decide (y < x)) r (fun a => by simp)
    (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)

/-- A stable sort of positions in ascending order needs no tie-break: both relations sort them alike. -/
theorem stableSort_above (r : Fin 8 → ℝ) (l : List (Fin 8)) (hl : l.Pairwise (· < ·)) :
    stableSort (above r) l = stableSort (aboveOrFirst r) l := by
  induction l with
  | nil => rfl
  | cons a l ih =>
    obtain ⟨ha, hl'⟩ := List.pairwise_cons.mp hl
    unfold stableSort
    rw [ih hl']
    refine insertBefore_congr _ _ a _ fun b hb => ?_
    have hab : a < b := ha b ((perm_stableSort _ l).mem_iff.mp hb)
    simp [above, aboveOrFirst, not_lt.mpr hab.le]

/-- So both sorts take each output from the same position. -/
theorem sortedFrom_above (r : Fin 8 → ℝ) : sortedFrom (above r) = sortedFrom (aboveOrFirst r) := by
  funext k
  have h : sortPositions 8 (above r) = sortPositions 8 (aboveOrFirst r) :=
    stableSort_above r _ (List.pairwise_lt_finRange 8)
  unfold sortedFrom
  simp only [List.get_eq_getElem, h]
  rfl

variable {r : Fin 8 → ℝ} {a b : Fin 8}

/-- The sort's first two outputs come from the first and the second of the scores. -/
theorem sortedFrom_prefix (h : IsTop2 r a b) (i : Fin 2) :
    sortedFrom (above r) (i.castLE (by decide)) = ![a, b] i := by
  rw [sortedFrom_above]
  refine (aboveOrFirst_total r).sortedFrom_eq_of_prefix (k := 2) (by decide) ![a, b] ?_ ?_ ?_ i
  · intro i j hij
    fin_cases i <;> fin_cases j <;> first | rfl | (exfalso; simp at hij; first | exact h.ne hij | exact h.ne hij.symm)
  · intro i j hij
    have e : i = 0 ∧ j = 1 := by omega
    obtain ⟨rfl, rfl⟩ := e
    show aboveOrFirst r b a = false
    simp only [aboveOrFirst, Bool.or_eq_false_iff, Bool.and_eq_false_iff, decide_eq_false_iff_not, not_lt]
    refine ⟨h.le_a b, ?_⟩
    by_contra hc
    push Not at hc
    exact absurd hc.1 (ne_of_lt (h.lt_a b hc.2))
  · intro i p hp
    have hpa : p ≠ a := fun e => hp 0 e.symm
    have hpb : p ≠ b := fun e => hp 1 e.symm
    have key : ∀ q : Fin 8, r p ≤ r q → (p < q → r p < r q) → aboveOrFirst r p q = false := by
      intro q h1 h2
      simp only [aboveOrFirst, Bool.or_eq_false_iff, Bool.and_eq_false_iff, decide_eq_false_iff_not, not_lt]
      refine ⟨h1, ?_⟩
      by_contra hc
      push Not at hc
      exact absurd hc.1 (ne_of_lt (h2 hc.2))
    fin_cases i
    · exact key a (h.le_a p) (h.lt_a p)
    · exact key b (h.le_b p hpa) (h.lt_b p hpa)

end Cert.Proof.TopTwo

end
-- ==== Proof.Weights.lean ====
/-
  The routing weights of one token, over the extended reals. `gate r a b e` is the weight of expert `e` when `r` are
  the token's eight scores and `a`, `b` the first and the second of them. Two computations of it are read here: a row
  of 128 lanes whose first eight hold the scores and the rest −∞ (maxima, and minima of lane numbers), and a softmax
  over eight entries followed by a stable sort.
-/
module

public import proofs.«01_k».proof.Proof.TopTwo
public import Idealize.ShloMosaic.Lib.Pointwise
public import Idealize.ShloMosaic.Lib.SortNet.Extract
public import Idealize.ShloMosaic.Lib.WordCmp
public import Idealize.ShloMosaic.PureOps.Ideal

@[expose] public section

noncomputable section

namespace Cert.Proof.Weights

open Idealize.ShloMosaic Cert.Proof.TopTwo

/-- The softmax's denominator, shifted by the score at `a`. -/
def total (r : Fin 8 → ℝ) (a : Fin 8) : EReal := ∑ l, Ideal.exp ((r l : EReal) - (r a : EReal))

/-- The weight of expert `e`: the first choice's probability at `a`, the second's at `b`, else 0. -/
def gate (r : Fin 8 → ℝ) (a b e : Fin 8) : EReal :=
  (if e = a then Ideal.div 1 (total r a) else 0)
    + (if e = b then Ideal.div (Ideal.exp ((r b : EReal) - (r a : EReal))) (total r a) else 0)

/-- Eight scores spread over 128 lanes, −∞ beyond them. -/
def lanes (r : Fin 8 → ℝ) (l : Fin 128) : EReal := if h : l.val < 8 then (r ⟨l.val, h⟩ : EReal) else ⊥

/-- An expert's lane. -/
abbrev lane (e : Fin 8) : Fin 128 := e.castLE (by decide)

theorem lanes_lane (r : Fin 8 → ℝ) (e : Fin 8) : lanes r (lane e) = (r e : EReal) := dif_pos e.isLt

/-! ## Folds over the lanes -/

/-- A maximum folded from below is the value at a place that no other exceeds. -/
theorem fold_max_eq {n : ℕ} (f : Fin n → EReal) (p : Fin n) (h : ∀ l, f l ≤ f p) :
    (Finset.univ : Finset (Fin n)).fold max ⊥ f = f p :=
  le_antisymm ((Finset.fold_max_le _).mpr ⟨bot_le, fun l _ => h l⟩)
    ((Finset.le_fold_max _).mpr (Or.inr ⟨p, Finset.mem_univ p, le_rfl⟩))

/-- The least lane number at which a condition holds, folded as signed words. -/
theorem fold_minsi_eq (c : Fin 128 → Prop) [DecidablePred c] (p : Fin 128) (hp : c p) (hlt : ∀ l, l < p → ¬ c l) :
    (Finset.univ : Finset (Fin 128)).fold IntOp.minsi 2147483647#32
      (fun l => if c l then BitVec.ofNat 32 l.val else 128#32) = BitVec.ofNat 32 p.val := by
  have small : ∀ n : ℕ, n ≤ 128 → (BitVec.ofNat 32 n).toInt = (n : ℤ) := fun n hn => by
    rw [BitVec.toInt_ofNat', Int.bmod_eq_of_le] <;> omega
  apply BitVec.eq_of_toInt_eq
  rw [← Finset.fold_hom (op' := min) (m := BitVec.toInt) (fun x y => SortNet.toInt_minsi x y), small _ p.isLt.le]
  have val : ∀ l : Fin 128, (if c l then BitVec.ofNat 32 l.val else 128#32).toInt = if c l then (l.val : ℤ) else 128 := by
    intro l
    split
    · exact small _ l.isLt.le
    · rfl
  simp only [val]
  refine le_antisymm ((Finset.fold_min_le _).mpr (Or.inr ⟨p, Finset.mem_univ p, by rw [if_pos hp]⟩))
    ((Finset.le_fold_min _).mpr ⟨?_, fun l _ => ?_⟩)
  · have := p.isLt
    show (p.val : ℤ) ≤ 2147483647
    omega
  · split
    · rename_i h
      by_contra hn
      exact hlt l (by rw [Fin.lt_def]; omega) h
    · have := p.isLt; omega

/-- A select by equality of two small words is a choice by equality of the numbers. -/
theorem select_eq {α : Type} {m n : ℕ} (hm : m < 2 ^ 32) (hn : n < 2 ^ 32) (u v : α) :
    Scalar.select (IntOp.cmpi .eq (BitVec.ofNat 32 m) (BitVec.ofNat 32 n)) u v = if m = n then u else v := by
  rw [WordCmp.cmpi_eq_ofNat hm hn]
  by_cases h : m = n
  · simp [h, Scalar.select]
  · simp [h, Scalar.select]

/-- A sum over the lanes of a function that vanishes beyond the first eight. -/
theorem sum_lanes (f : Fin 128 → EReal) (h : ∀ l : Fin 128, 8 ≤ l.val → f l = 0) : ∑ l, f l = ∑ e : Fin 8, f (lane e) := by
  have e : ∑ l, f l = ∑ i : Fin 8, f (Fin.castAdd 120 i) + ∑ i : Fin 120, f (Fin.natAdd 8 i) :=
    Fin.sum_univ_add (a := 8) (b := 120) f
  rw [e, Finset.sum_eq_zero (f := fun i : Fin 120 => f (Fin.natAdd 8 i)) fun i _ => h _ (by simp), add_zero]
  rfl

variable {r : Fin 8 → ℝ} {a b : Fin 8}

/-- A lane whose value is above −∞ is one of the first eight. -/
theorem lanes_le (h : ∀ j, r j ≤ r a) (l : Fin 128) : lanes r l ≤ lanes r (lane a) := by
  rw [lanes_lane]
  unfold lanes
  split
  · exact EReal.coe_le_coe_iff.mpr (h _)
  · exact bot_le

/-- The row's maximum is the first score. -/
theorem max_lanes (h : IsTop2 r a b) : (Finset.univ : Finset (Fin 128)).fold max ⊥ (lanes r) = (r a : EReal) :=
  (fold_max_eq _ (lane a) (lanes_le h.le_a)).trans (lanes_lane r a)

/-- The first lane that holds the maximum is the first score's. -/
theorem first_lane (h : IsTop2 r a b) :
    (Finset.univ : Finset (Fin 128)).fold IntOp.minsi 2147483647#32
      (fun l => if lanes r l = (r a : EReal) then BitVec.ofNat 32 l.val else 128#32) = BitVec.ofNat 32 a.val :=
  fold_minsi_eq (fun l => lanes r l = (r a : EReal)) (lane a) (lanes_lane r a) fun l hl he => by
    have h8 : l.val < 8 := lt_trans hl a.isLt
    rw [lanes, dif_pos h8] at he
    exact absurd (EReal.coe_eq_coe_iff.mp he) (ne_of_lt (h.lt_a ⟨l.val, h8⟩ hl))

/-- The row with the first score's lane put to −∞. -/
def rest (r : Fin 8 → ℝ) (a : Fin 8) (l : Fin 128) : EReal := if l.val = a.val then ⊥ else lanes r l

theorem rest_lane (h : IsTop2 r a b) : rest r a (lane b) = (r b : EReal) := by
  rw [rest, if_neg (fun e : (lane b).val = a.val => h.ne (Fin.ext e)), lanes_lane]

/-- Its maximum is the second score. -/
theorem max_rest (h : IsTop2 r a b) : (Finset.univ : Finset (Fin 128)).fold max ⊥ (rest r a) = (r b : EReal) := by
  refine (fold_max_eq _ (lane b) fun l => ?_).trans (rest_lane h)
  rw [rest_lane h]
  unfold rest lanes
  split
  · exact bot_le
  · rename_i hne
    split
    · exact EReal.coe_le_coe_iff.mpr (h.le_b _ fun e => hne (congrArg Fin.val e))
    · exact bot_le

/-- The first lane that holds that maximum is the second score's. -/
theorem first_rest (h : IsTop2 r a b) :
    (Finset.univ : Finset (Fin 128)).fold IntOp.minsi 2147483647#32
      (fun l => if rest r a l = (r b : EReal) then BitVec.ofNat 32 l.val else 128#32) = BitVec.ofNat 32 b.val :=
  fold_minsi_eq (fun l => rest r a l = (r b : EReal)) (lane b) (rest_lane h) fun l hl he => by
    have h8 : l.val < 8 := lt_trans hl b.isLt
    by_cases hne : l.val = a.val
    · rw [rest, if_pos hne] at he
      exact EReal.bot_ne_coe _ he
    · rw [rest, if_neg hne, lanes, dif_pos h8] at he
      exact absurd (EReal.coe_eq_coe_iff.mp he)
        (ne_of_lt (h.lt_b ⟨l.val, h8⟩ (fun e => hne (congrArg Fin.val e)) hl))

/-- The lanes beyond the scores add nothing to the softmax's denominator. -/
theorem sum_exp_lanes : ∑ l, Ideal.exp (lanes r l - (r a : EReal)) = total r a := by
  rw [sum_lanes _ fun l hl => ?_]
  · simp only [lanes_lane]; rfl
  · rw [lanes, dif_neg (not_lt.mpr hl), EReal.bot_sub]; rfl

/-! ## The softmax -/

/-- The denominator as a real number. -/
def totalR (r : Fin 8 → ℝ) (a : Fin 8) : ℝ := ∑ l, Real.exp (r l - r a)

theorem totalR_pos (r : Fin 8 → ℝ) (a : Fin 8) : 0 < totalR r a :=
  Finset.sum_pos (fun _ _ => Real.exp_pos _) ⟨0, Finset.mem_univ _⟩

theorem exp_sub_coe (x y : ℝ) : Ideal.exp ((x : EReal) - (y : EReal)) = ((Real.exp (x - y) : ℝ) : EReal) := by
  rw [← EReal.coe_sub, Ideal.exp_coe]

theorem total_eq (r : Fin 8 → ℝ) (a : Fin 8) : total r a = (totalR r a : EReal) := by
  unfold total totalR
  simp only [exp_sub_coe]
  push_cast
  rfl

/-- A softmax entry is a real number. -/
theorem prob_eq (r : Fin 8 → ℝ) (a k : Fin 8) :
    Ideal.div (Ideal.exp ((r k : EReal) - (r a : EReal))) (total r a)
      = ((Real.exp (r k - r a) / totalR r a : ℝ) : EReal) := by
  rw [total_eq, Ideal.div_coe (totalR_pos r a).ne', exp_sub_coe, ← EReal.coe_mul, mul_one_div]

/-- The softmax keeps the scores' order. -/
theorem prob_lt (r : Fin 8 → ℝ) (a k k' : Fin 8) :
    Ideal.div (Ideal.exp ((r k' : EReal) - (r a : EReal))) (total r a)
        < Ideal.div (Ideal.exp ((r k : EReal) - (r a : EReal))) (total r a) ↔ r k' < r k := by
  rw [prob_eq, prob_eq, EReal.coe_lt_coe_iff, div_lt_div_iff_of_pos_right (totalR_pos r a), Real.exp_lt_exp,
    sub_lt_sub_iff_right]

/-- The first choice's probability, its exponential being 1. -/
theorem prob_first (r : Fin 8 → ℝ) (a : Fin 8) :
    Ideal.div (Ideal.exp ((r a : EReal) - (r a : EReal))) (total r a) = Ideal.div 1 (total r a) := by
  rw [exp_sub_coe, sub_self, Real.exp_zero]; rfl

end Cert.Proof.Weights

end
-- ==== Proof.Model.lean ====
/-
  The layer as plain sums over the extended reals: a token's score for an expert, an expert's two-layer network, and the
  token's result, the sum over the experts of routing weight times network.
-/
module

public import proofs.«01_k».proof.Proof.Weights

@[expose] public section

noncomputable section

namespace Cert.Proof.Model

open Cert.Proof.TopTwo Cert.Proof.Weights

/-- The seven arguments, read by their coordinates. -/
structure Inputs where
  x : Fin 2048 → Fin 1024 → EReal
  w1 : Fin 8 → Fin 4096 → Fin 1024 → EReal
  b1 : Fin 8 → Fin 4096 → EReal
  w2 : Fin 8 → Fin 1024 → Fin 4096 → EReal
  b2 : Fin 8 → Fin 1024 → EReal
  wg : Fin 8 → Fin 1024 → EReal
  bg : Fin 8 → EReal

namespace Inputs

variable (I : Inputs)

/-- Token `p`'s score for expert `e`. -/
def score (p : Fin 2048) (e : Fin 8) : EReal := ∑ k, I.x p k * I.wg e k + I.bg e

/-- Expert `e`'s network at token `p`, output coordinate `l`. -/
def net (p : Fin 2048) (e : Fin 8) (l : Fin 1024) : EReal :=
  ∑ h, max (∑ k, I.x p k * I.w1 e h k + I.b1 e h) 0 * I.w2 e l h + I.b2 e l

/-- The result at token `p`, coordinate `l`, when the token's scores are `s` and its two choices `a` and `b`. -/
def result (s : Fin 8 → ℝ) (a b : Fin 8) (p : Fin 2048) (l : Fin 1024) : EReal :=
  ∑ e, gate s a b e * I.net p e l

/-- The tokens and the router are finite. -/
structure Finite : Prop where
  x : ∀ p k, ∃ v : ℝ, I.x p k = v
  wg : ∀ e k, ∃ v : ℝ, I.wg e k = v
  bg : ∀ e, ∃ v : ℝ, I.bg e = v

/-- A finite sum of reals is the same sum among the extended reals. -/
theorem _root_.Cert.Proof.Model.coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- A number strictly between −∞ and ∞ is a real. -/
theorem _root_.Cert.Proof.Model.exists_real {v : EReal} (h : ⊥ < v) (h' : v < ⊤) : ∃ r : ℝ, v = r :=
  ⟨v.toReal, (EReal.coe_toReal h'.ne h.ne').symm⟩

variable {I}

/-- Finite tokens and router make the scores real. -/
theorem Finite.score (hI : I.Finite) (p : Fin 2048) : ∃ s : Fin 8 → ℝ, ∀ e, I.score p e = s e := by
  choose x hx using hI.x
  choose wg hwg using hI.wg
  choose bg hbg using hI.bg
  refine ⟨fun e => ∑ k, x p k * wg e k + bg e, fun e => ?_⟩
  unfold Inputs.score
  simp only [hx, hwg, hbg]
  rw [EReal.coe_add, coe_sum]
  simp only [EReal.coe_mul]

end Inputs

end Cert.Proof.Model

end
-- ==== Proof.Finite.lean ====
/-
  The precondition as the model reads it: the tokens, the router's matrix and the router's bias are real numbers.
-/
module

public import proofs.«01_k».proof.Pre_router_finite
public import proofs.«01_k».proof.Proof.Model
public import Idealize.ShloMosaic.Lib.Pointwise

@[expose] public section

set_option maxRecDepth 16384

noncomputable section

namespace Cert.Proof.Finite

open Idealize.ShloMosaic Idealize.ShloMosaic.Pointwise Cert.Pre_router_finite
open Cert.Proof.Model

/-- The precondition's shape relations. -/
theorem facts : Facts where
  bcast_S_S1x2048x1024 := by decide
  bcast_S_S8x1024 := by decide
  bcast_S_S8 := by decide

/-- The words of the constants −∞ and ∞. -/
theorem negInf : Ideal.ofBits FTy.f32 4286578688#32 = ⊥ := by simp [Ideal.ofBits, Ideal.ieee]
theorem posInf : Ideal.ofBits FTy.f32 2139095040#32 = ⊤ := by simp [Ideal.ofBits, Ideal.ieee]

/-- A tensor whose comparisons with −∞ and ∞ hold has a real number at each place. -/
theorem real_of {t : Shape} {f : S_.BroadcastsInDim t (![] : Fin 0 → Fin t.rank)} (v : FVec Ideal t .f32)
    (h1 : cmpf .ogt v (broadcastInDim t ![] f (constant S_ .f32 0xFF800000#32)) = fun _ => 1#1)
    (h2 : cmpf .olt v (broadcastInDim t ![] f (constant S_ .f32 0x7F800000#32)) = fun _ => 1#1) (i : t.Idx) :
    ∃ r : ℝ, v i = r := by
  have g1 : Ideal.cmp .ogt (v i) (Ideal.ofBits FTy.f32 4286578688#32) = 1#1 := congrFun h1 i
  have g2 : Ideal.cmp .olt (v i) (Ideal.ofBits FTy.f32 2139095040#32) = 1#1 := congrFun h2 i
  rw [negInf] at g1
  rw [posInf] at g2
  have t1 : ∀ q : Prop, [Decidable q] → BitVec.ofBool (decide q) = 1#1 → q := fun q _ hq => by
    by_contra hn
    rw [decide_eq_false hn] at hq
    exact absurd hq (by decide)
  exact exists_real (t1 _ g1) (t1 _ g2)

end Cert.Proof.Finite

end
-- ==== Proof.Block.lean ====
/-
  What one grid point of the kernel computes, at one entry of its block. The router's stored weights, at a token and an
  expert's lane, are `Weights.gate` of the token's scores; the point's weight is the stored one of its own expert; what
  is added to the output is that weight times the expert's two-layer network.
-/
module

public import proofs.«01_k».proof.Proof.Weights
public import proofs.«01_k».proof.Proof.Gen.KernelIdeal.Skeleton

@[expose] public section

set_option maxRecDepth 16384

noncomputable section

namespace Cert.Proof.Block

open Cert.KernelIdeal Cert.KernelIdeal.Gen Idealize.ShloMosaic Idealize.ShloMosaic.Pointwise
open Cert.Proof.TopTwo Cert.Proof.Weights

/-- The word the maxima start from is −∞. -/
theorem negInf : Ideal.ofBits FTy.f32 4286578688#32 = ⊥ := by simp [Ideal.ofBits, Ideal.ieee]

/-! ## The router -/

section Router

variable (x : Vec Ideal S512x1024 .f32) (wg : Vec Ideal S1024x128 .f32) (bg : Vec Ideal S1x128 .f32)

/-- The weights the router stores: the two choices' probabilities at their lanes, 0 elsewhere. -/
def wall : Vec Ideal S512x128 .f32 :=
  k0_pay12 (F := Ideal) (iota .tc S512x128 32 [1] iota_S512x128_d1_w32) (k0_pay7 x wg bg) (k0_pay9 x wg bg) (k0_pay10 x wg bg)
    (Scalar.ofBits .f32 0x00000000#32) (k0_pay11 x wg bg)

/-- A token's score on a lane: the row of tokens times the lane's column, plus the lane's bias. -/
theorem score_apply (r : Fin 512) (l : Fin 128) :
    k0_pay2 (F := Ideal) x wg bg (ix2 r l) = ∑ k : Fin 1024, x (ix2 r k) * wg (ix2 k l) + bg (ix2 0 l) := by
  pointwise [k0_pay2]

variable {x wg bg} {r : Fin 512} {s : Fin 8 → ℝ} {a b : Fin 8}
variable (hs : ∀ l, k0_pay2 (F := Ideal) x wg bg (ix2 r l) = lanes s l) (h : IsTop2 s a b)
include hs h

/-- The row's maximum. -/
theorem pay3_apply : k0_pay3 (F := Ideal) x wg bg (ix2 r 0) = (s a : EReal) := by
  pointwise [k0_pay3]
  simp only [hs, negInf]
  exact max_lanes h

/-- Its first lane. -/
theorem pay4_apply : k0_pay4 (F := Ideal) x wg bg (ix2 r 0) = BitVec.ofNat 32 a.val := by
  pointwise [k0_pay4]
  simp only [hs, pay3_apply hs h]
  exact first_lane h

/-- The row with that lane put to −∞. -/
theorem pay5_apply (l : Fin 128) : k0_pay5 (F := Ideal) x wg bg (ix2 r l) = rest s a l := by
  pointwise [k0_pay5]
  rw [pay4_apply hs h, select_eq (by omega) (by omega), hs]
  rfl

/-- Its maximum. -/
theorem pay6_apply : k0_pay6 (F := Ideal) x wg bg (ix2 r 0) = (s b : EReal) := by
  pointwise [k0_pay6]
  simp only [pay5_apply hs h, negInf]
  exact max_rest h

/-- That maximum's first lane. -/
theorem pay7_apply : k0_pay7 (F := Ideal) x wg bg (ix2 r 0) = BitVec.ofNat 32 b.val := by
  pointwise [k0_pay7]
  simp only [pay5_apply hs h, pay6_apply hs h]
  exact first_rest h

/-- The softmax's denominator. -/
theorem pay8_apply : k0_pay8 (F := Ideal) x wg bg (ix2 r 0) = total s a := by
  pointwise [k0_pay8]
  simp only [hs, pay3_apply hs h]
  exact sum_exp_lanes

/-- The second choice's probability. -/
theorem pay9_apply : k0_pay9 (F := Ideal) x wg bg (ix2 r 0) = Ideal.div (Ideal.exp ((s b : EReal) - (s a : EReal))) (total s a) := by
  pointwise [k0_pay9]
  rw [pay6_apply hs h, pay3_apply hs h, pay8_apply hs h]

/-- The first choice's probability. -/
theorem pay11_apply : k0_pay11 (F := Ideal) x wg bg (ix2 r 0) = Ideal.div 1 (total s a) := by
  pointwise [k0_pay11]
  rw [pay8_apply hs h]

/-- THE STORED WEIGHT of expert `e` for the token in row `r`. -/
theorem wall_apply (e : Fin 8) : wall x wg bg (ix2 r (lane e)) = gate s a b e := by
  unfold wall
  pointwise [k0_pay12, k0_pay10]
  rw [pay4_apply hs h, pay7_apply hs h, pay9_apply hs h, pay11_apply hs h, select_eq (by simp; omega) (by omega),
    select_eq (by simp; omega) (by omega)]
  simp only [gate, Fin.ext_iff, Fin.val_castLE]

end Router

/-! ## The weight a point takes, and what it adds -/

/-- A point of expert `e` takes the stored weight of lane `e`. -/
theorem pick_apply (i : grid0.Coords) (v : Vec Ideal S512x128 .f32) (r : Fin 512) (e : Fin 8) (he : (i 1).val = e.val) :
    k0_pay15 (F := Ideal) i v (ix2 r 0) = v (ix2 r (lane e)) := by
  pointwise [k0_pay15]
  rw [he]
  have step : ∀ l : Fin 128, Scalar.select (IntOp.cmpi .eq (BitVec.ofNat 32 l.val) (BitVec.ofNat 32 e.val)) (v (ix2 r l)) 0
      = if l = lane e then v (ix2 r l) else 0 := fun l => by
    rw [select_eq (by omega) (by omega)]
    simp only [Fin.ext_iff, Fin.val_castLE]
  simp only [step, Finset.sum_ite_eq', Finset.mem_univ, if_true]

/-- The expert's network at an entry of the block. -/
theorem expert_apply (x : Vec Ideal S512x1024 .f32) (w1 : Vec Ideal S1x1024x4096 .bf16) (b1 : Vec Ideal S1x1x4096 .f32)
    (w2 : Vec Ideal S1x4096x1024 .bf16) (b2 : Vec Ideal S1x1x1024 .f32) (r : Fin 512) (l : Fin 1024) :
    k0_pay14 (F := Ideal) x w1 b1 w2 b2 (ix2 r l)
      = ∑ h : Fin 4096, max (∑ k : Fin 1024, x (ix2 r k) * w1 (ix3 0 k h) + b1 (ix3 0 0 h)) 0 * w2 (ix3 0 h l) + b2 (ix3 0 0 l) := by
  pointwise [k0_pay14]

/-- What a point leaves in its output block: what stood there plus weight times network. -/
theorem add_apply (y : FVec Ideal S512x1024 .f32) (w : FVec Ideal S512x1 .f32) (o : Vec Ideal S512x1024 .f32)
    (r : Fin 512) (l : Fin 1024) :
    k0_pay1 (F := Ideal) y w o (ix2 r l) = o (ix2 r l) + w (ix2 r 0) * y (ix2 r l) := by
  pointwise [k0_pay1]

/-- The block a row of points starts from. -/
theorem zero_apply (j : S512x1024.Idx) : k0_pay13 (F := Ideal) j = 0 := by
  pointwise [k0_pay13]

end Cert.Proof.Block

end
-- ==== Proof.Blocks.lean ====
/-
  The kernel's input blocks at an entry, in terms of the program's arguments: point `t` is row block `t / 8` and expert
  `t % 8`. Its tokens are 512 rows of `x`, its weights and biases one expert's slice (the two matrices transposed), its
  router the gate's transpose padded with zero columns and the gate's bias padded with −∞.
-/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Proof.Blocks

open Cert.KernelIdeal Cert.KernelIdeal.Gen Idealize.ShloMosaic Idealize.ShloMosaic.TcCoe Idealize.ShloMosaic.Pointwise
open Idealize.SL.Sem

variable (m : (ℓ : Loc nD τ sig) → Buf (Elt Ideal) ℓ) (c : Dev nD)

/-! ## The arguments, at their array types -/

abbrev argX : FVec Ideal S1x2048x1024 .f32 := m ((c : Thread nD τ).loc main_arg0)
abbrev argW1 : FVec Ideal S8x4096x1024 .f32 := m ((c : Thread nD τ).loc main_arg1)
abbrev argB1 : FVec Ideal S8x4096 .f32 := m ((c : Thread nD τ).loc main_arg2)
abbrev argW2 : FVec Ideal S8x1024x4096 .f32 := m ((c : Thread nD τ).loc main_arg3)
abbrev argB2 : FVec Ideal S8x1024 .f32 := m ((c : Thread nD τ).loc main_arg4)
abbrev argWg : FVec Ideal S8x1024 .f32 := m ((c : Thread nD τ).loc main_arg5)
abbrev argBg : FVec Ideal S8 .f32 := m ((c : Thread nD τ).loc main_arg6)

/-! ## The input blocks, at their block types -/

abbrev blkX (t : Fin cfg0.N) : Vec Ideal S512x1024 .f32 := iblk m c 0 t
abbrev blkW1 (t : Fin cfg0.N) : Vec Ideal S1x1024x4096 .bf16 := iblk m c 1 t
abbrev blkB1 (t : Fin cfg0.N) : Vec Ideal S1x1x4096 .f32 := iblk m c 2 t
abbrev blkW2 (t : Fin cfg0.N) : Vec Ideal S1x4096x1024 .bf16 := iblk m c 3 t
abbrev blkB2 (t : Fin cfg0.N) : Vec Ideal S1x1x1024 .f32 := iblk m c 4 t
abbrev blkWg (t : Fin cfg0.N) : Vec Ideal S1024x128 .f32 := iblk m c 5 t
abbrev blkBg (t : Fin cfg0.N) : Vec Ideal S1x128 .f32 := iblk m c 6 t

/-- Every window's block index, in the point's number; the point's second coordinate is its expert. -/
theorem idx : ∀ t : Fin cfg0.N, win0_0.index t = ![t.val / 8, 0] ∧ win0_1.index t = ![t.val % 8, 0, 0]
    ∧ win0_2.index t = ![t.val % 8, 0, 0] ∧ win0_3.index t = ![t.val % 8, 0, 0] ∧ win0_4.index t = ![t.val % 8, 0, 0]
    ∧ win0_5.index t = ![0, 0] ∧ win0_6.index t = ![0, 0] :=
  (by decide +kernel : ∀ t : Fin grid0.N, _)

/-- A point's second coordinate is its expert. -/
theorem coord : ∀ t : Fin cfg0.N, (grid0.coords t 1).val = t.val % 8 :=
  (by decide +kernel : ∀ t : Fin grid0.N, _)

/-! ## What the arrays behind the windows hold when the kernel starts -/

/-- The tokens, one row each. -/
theorem entryX : V m c main_v0 = shapeCast S2048x1024 (argX m c) shapeCasts_S1x2048x1024_S2048x1024 := by
  simp only [V, hostOps0, hostOps0_1, hostOps0_2, hostOps0_3, hostOps0_4, List.flatten_cons, List.flatten_nil, List.append_nil,
    List.cons_append, List.nil_append]
  entry_read
  rfl

/-- The first layer's matrices, transposed. -/
theorem entryW1 : V m c main_v2
    = truncf (F := Ideal) .bf16 (transpose S8x1024x4096 [0, 2, 1] (argW1 m c) transposes_S8x4096x1024_S8x1024x4096_0_2_1) bitsLt_bf16_f32 := by
  simp only [V, hostOps0, hostOps0_1, hostOps0_2, hostOps0_3, hostOps0_4, List.flatten_cons, List.flatten_nil, List.append_nil,
    List.cons_append, List.nil_append]
  entry_read
  rfl

/-- The second layer's matrices, transposed. -/
theorem entryW2 : V m c main_v4
    = truncf (F := Ideal) .bf16 (transpose S8x4096x1024 [0, 2, 1] (argW2 m c) transposes_S8x1024x4096_S8x4096x1024_0_2_1) bitsLt_bf16_f32 := by
  simp only [V, hostOps0, hostOps0_1, hostOps0_2, hostOps0_3, hostOps0_4, List.flatten_cons, List.flatten_nil, List.append_nil,
    List.cons_append, List.nil_append]
  entry_read
  rfl

/-- The gate, transposed and padded. -/
theorem entryWg : V m c main_v6
    = pad S1024x128 ![0, 0] ![0, 120] ![0, 0] (transpose S1024x8 [1, 0] (argWg m c) transposes_S8x1024_S1024x8_1_0)
        (sitofp (F := Ideal) .f32 (constantI S_ 32 0#32)) pads_S1024x8_S1024x128_000_01200 h_S_ := by
  simp only [V, hostOps0, hostOps0_1, hostOps0_2, hostOps0_3, hostOps0_4, List.flatten_cons, List.flatten_nil, List.append_nil,
    List.cons_append, List.nil_append]
  entry_read
  rfl

/-- The gate's bias, padded. -/
theorem entryBg : V m c main_v8
    = shapeCast S1x128 (pad S128 ![0] ![120] ![0] (argBg m c) (constant (F := Ideal) S_ .f32 0xFF800000#32) pads_S8_S128_01200 h_S_)
        shapeCasts_S128_S1x128 := by
  simp only [V, hostOps0, hostOps0_1, hostOps0_2, hostOps0_3, hostOps0_4, List.flatten_cons, List.flatten_nil, List.append_nil,
    List.cons_append, List.nil_append]
  entry_read
  rfl

/-- The first layer's biases. -/
theorem entryB1 : V m c main_v9 = shapeCast S8x1x4096 (argB1 m c) shapeCasts_S8x4096_S8x1x4096 := by
  simp only [V, hostOps0, hostOps0_1, hostOps0_2, hostOps0_3, hostOps0_4, List.flatten_cons, List.flatten_nil, List.append_nil,
    List.cons_append, List.nil_append]
  entry_read
  rfl

/-- The second layer's biases. -/
theorem entryB2 : V m c main_v10 = shapeCast S8x1x1024 (argB2 m c) shapeCasts_S8x1024_S8x1x1024 := by
  simp only [V, hostOps0, hostOps0_1, hostOps0_2, hostOps0_3, hostOps0_4, List.flatten_cons, List.flatten_nil, List.append_nil,
    List.cons_append, List.nil_append]
  entry_read
  rfl

/-! ## The blocks -/

/-- A row of the token block is a row of `x`. -/
theorem blkX_apply (t : Fin cfg0.N) (r : Fin 512) (k : Fin 1024) (p : Fin 2048) (hp : p.val = t.val / 8 * 512 + r.val) :
    blkX m c t (ix2 r k) = argX m c (ix3 0 p k) := by
  show iblk m c 0 t (ix2 r k) = _
  blk_simp [iblk]
  rw [show V m c main_v0 = _ from entryX m c]
  pointwise
  blk_ext [idx t, hp]

/-- The first layer's matrix, transposed. -/
theorem blkW1_apply (t : Fin cfg0.N) (k : Fin 1024) (h : Fin 4096) (e : Fin 8) (he : t.val % 8 = e.val) :
    blkW1 m c t (ix3 0 k h) = argW1 m c (ix3 e h k) := by
  show iblk m c 1 t (ix3 0 k h) = _
  blk_simp [iblk]
  rw [show V m c main_v2 = _ from entryW1 m c]
  pointwise
  blk_ext [idx t, he]

/-- The first layer's bias. -/
theorem blkB1_apply (t : Fin cfg0.N) (h : Fin 4096) (e : Fin 8) (he : t.val % 8 = e.val) :
    blkB1 m c t (ix3 0 0 h) = argB1 m c (ix2 e h) := by
  show iblk m c 2 t (ix3 0 0 h) = _
  blk_simp [iblk]
  rw [show V m c main_v9 = _ from entryB1 m c]
  pointwise
  blk_ext [idx t, he]

/-- The second layer's matrix, transposed. -/
theorem blkW2_apply (t : Fin cfg0.N) (h : Fin 4096) (l : Fin 1024) (e : Fin 8) (he : t.val % 8 = e.val) :
    blkW2 m c t (ix3 0 h l) = argW2 m c (ix3 e l h) := by
  show iblk m c 3 t (ix3 0 h l) = _
  blk_simp [iblk]
  rw [show V m c main_v4 = _ from entryW2 m c]
  pointwise
  blk_ext [idx t, he]

/-- The second layer's bias. -/
theorem blkB2_apply (t : Fin cfg0.N) (l : Fin 1024) (e : Fin 8) (he : t.val % 8 = e.val) :
    blkB2 m c t (ix3 0 0 l) = argB2 m c (ix2 e l) := by
  show iblk m c 4 t (ix3 0 0 l) = _
  blk_simp [iblk]
  rw [show V m c main_v10 = _ from entryB2 m c]
  pointwise
  blk_ext [idx t, he]

/-- The gate's padding is the number 0. -/
theorem padZero : FloatOps.sitofp (F := Ideal) .f32 0#32 = 0 := by
  show (((0#32 : BitVec 32).toInt : ℝ) : EReal) = 0
  simp

/-- The router's matrix: the gate's transpose, zero beyond the experts' lanes. -/
theorem blkWg_apply (t : Fin cfg0.N) (k : Fin 1024) (l : Fin 128) :
    blkWg m c t (ix2 k l) = if h : l.val < 8 then argWg m c (ix2 ⟨l.val, h⟩ k) else 0 := by
  show iblk m c 5 t (ix2 k l) = _
  blk_simp [iblk]
  rw [show V m c main_v6 = _ from entryWg m c,
    show ((View.whole main_v6).slice (win0_5.rect t)).emb (ix2 k l) = (ix2 k l : S1024x128.Idx) from by blk_ext [idx t]]
  pointwise
  exact dite_congr rfl (fun _ => rfl) fun _ => padZero

/-- The router's bias: the gate's, −∞ beyond the experts' lanes. -/
theorem blkBg_apply (t : Fin cfg0.N) (l : Fin 128) :
    blkBg m c t (ix2 0 l) = if h : l.val < 8 then argBg m c (ix1 ⟨l.val, h⟩) else ⊥ := by
  show iblk m c 6 t (ix2 0 l) = _
  blk_simp [iblk]
  rw [show V m c main_v8 = _ from entryBg m c,
    show ((View.whole main_v8).slice (win0_6.rect t)).emb (ix2 0 l) = (ix2 0 l : S1x128.Idx) from by blk_ext [idx t]]
  pointwise
  simp only [show Ideal.ofBits FTy.f32 4286578688#32 = ⊥ from by simp [Ideal.ofBits, Ideal.ieee]]

end Cert.Proof.Blocks

end
-- ==== Proof.Pieces.lean ====
/-
  What the kernel's body leaves after a grid point, as values of its named pieces: the first point of a row block stores
  the router's weights and its own contribution over zeros; every later one keeps the weights and adds its contribution
  to what the point before left.
-/
module

public import proofs.«01_k».proof.Proof.Block
public import proofs.«01_k».proof.Proof.Blocks
public import Idealize.ShloMosaic.Lib.Pipeline.ReadBack

@[expose] public section

set_option maxRecDepth 16384

noncomputable section

namespace Cert.Proof.Pieces

open Cert.KernelIdeal Cert.KernelIdeal.Gen Idealize.ShloMosaic Idealize.ShloMosaic.TcCoe Idealize.ShloMosaic.Pointwise
open Idealize.SL.Sem
open Cert.Proof.Block Cert.Proof.Blocks

variable (m : (ℓ : Loc nD τ sig) → Buf (Elt Ideal) ℓ) (c : Dev nD)

/-- The expert's network over a point's blocks. -/
abbrev netBlk (t : Fin cfg0.N) : FVec Ideal S512x1024 .f32 :=
  k0_pay14 (F := Ideal) (blkX m c t) (blkW1 m c t) (blkB1 m c t) (blkW2 m c t) (blkB2 m c t)

/-- The weights a point's blocks give. -/
abbrev wallBlk (t : Fin cfg0.N) : Vec Ideal S512x128 .f32 := wall (blkX m c t) (blkWg m c t) (blkBg m c t)

/-- The first point of a row block: what it leaves in the output block. -/
theorem first_out (t : Fin cfg0.N) (h0 : t.val % 8 = 0) :
    (outsAt0 m c t.val t.isLt).1
      = k0_pay1 (F := Ideal) (netBlk m c t) (k0_pay15 (grid0.coords t) (wallBlk m c t)) (k0_pay13 (F := Ideal)) := by
  rw [outsAt0_A m c t h0]
  frame_out
  rfl

/-- The first point of a row block: the weights it leaves. -/
theorem first_wall (t : Fin cfg0.N) (h0 : t.val % 8 = 0) : (outsAt0 m c t.val t.isLt).2 = wallBlk m c t := by
  rw [outsAt0_A m c t h0]
  frame_out
  rfl

/-- A later point: what it leaves in the output block. -/
theorem later_out (t : Fin cfg0.N) (h0 : ¬t.val % 8 = 0) (ht : t.val - 1 < cfg0.N) :
    (outsAt0 m c t.val t.isLt).1
      = k0_pay1 (F := Ideal) (netBlk m c t) (k0_pay15 (grid0.coords t) (outsAt0 m c (t.val - 1) ht).2) (outsAt0 m c (t.val - 1) ht).1 := by
  rw [outsAt0_B m c t h0]
  frame_out
  simp only [read_unread_whole]

/-- A later point keeps the weights. -/
theorem later_wall (t : Fin cfg0.N) (h0 : ¬t.val % 8 = 0) (ht : t.val - 1 < cfg0.N) :
    (outsAt0 m c t.val t.isLt).2 = (outsAt0 m c (t.val - 1) ht).2 := by
  rw [outsAt0_B m c t h0]
  rfl

end Cert.Proof.Pieces

end
-- ==== Proof.KernelValue.lean ====
/-
  The kernel's result array at an entry is the model's result. Over the eight points of a row block, by induction on the
  point: the stored weights are the model's for every token of the block, and the output block holds the sum of the
  contributions of the experts seen so far. The block's last point writes it back.
-/
module

public import proofs.«01_k».proof.Proof.Pieces
public import proofs.«01_k».proof.Proof.Model
public import proofs.«01_k».proof.Proof.Gen.KernelIdeal.Value

@[expose] public section

set_option maxRecDepth 16384

noncomputable section

namespace Cert.Proof.KernelValue

open Cert.KernelIdeal Cert.KernelIdeal.Gen Idealize.ShloMosaic Idealize.ShloMosaic.TcCoe Idealize.ShloMosaic.Pointwise
open Idealize.SL.Sem
open Cert.Proof.TopTwo Cert.Proof.Weights Cert.Proof.Model Cert.Proof.Block Cert.Proof.Blocks Cert.Proof.Pieces

variable (m : (ℓ : Loc nD τ sig) → Buf (Elt Ideal) ℓ) (c : Dev nD)

/-- The kernel's arguments as the model's. -/
def inputs : Inputs where
  x p k := argX m c (ix3 0 p k)
  w1 e h k := argW1 m c (ix3 e h k)
  b1 e h := argB1 m c (ix2 e h)
  w2 e l h := argW2 m c (ix3 e l h)
  b2 e l := argB2 m c (ix2 e l)
  wg e k := argWg m c (ix2 e k)
  bg e := argBg m c (ix1 e)

/-- A token's row of scores in the kernel: the eight scores, −∞ on the other lanes. -/
theorem score_lanes (t : Fin cfg0.N) (r : Fin 512) (p : Fin 2048) (hp : p.val = t.val / 8 * 512 + r.val)
    {s : Fin 8 → ℝ} (hs : ∀ e, (inputs m c).score p e = s e) (l : Fin 128) :
    k0_pay2 (F := Ideal) (blkX m c t) (blkWg m c t) (blkBg m c t) (ix2 r l) = lanes s l := by
  rw [score_apply]
  simp only [blkWg_apply, blkBg_apply, blkX_apply m c t r _ p hp, lanes]
  by_cases h : l.val < 8
  · simp only [dif_pos h]
    exact hs ⟨l.val, h⟩
  · simp only [dif_neg h, mul_zero, Finset.sum_const_zero]
    exact EReal.add_bot 0

/-- A point's network is its expert's. -/
theorem net_apply (t : Fin cfg0.N) (r : Fin 512) (l : Fin 1024) (p : Fin 2048) (hp : p.val = t.val / 8 * 512 + r.val)
    (e : Fin 8) (he : t.val % 8 = e.val) : netBlk m c t (ix2 r l) = (inputs m c).net p e l := by
  unfold netBlk
  rw [expert_apply]
  simp only [blkX_apply m c t r _ p hp, blkW1_apply m c t _ _ e he, blkB1_apply m c t _ e he, blkW2_apply m c t _ _ e he,
    blkB2_apply m c t _ e he]
  rfl

/-- Expert number `k`'s contribution, 0 beyond the eight. -/
def term (s : Fin 8 → ℝ) (a b : Fin 8) (p : Fin 2048) (l : Fin 1024) (k : ℕ) : EReal :=
  if h : k < 8 then gate s a b ⟨k, h⟩ * (inputs m c).net p ⟨k, h⟩ l else 0

theorem term_eq (s : Fin 8 → ℝ) (a b : Fin 8) (p : Fin 2048) (l : Fin 1024) (e : Fin 8) (k : ℕ) (h : k = e.val) :
    term m c s a b p l k = gate s a b e * (inputs m c).net p e l := by
  subst h; exact dif_pos e.isLt

/-- THE INVARIANT after point `n`: the weights of every token of the row block, and the sum of the contributions so far. -/
theorem after (n : ℕ) : ∀ (hn : n < cfg0.N) (r : Fin 512) (p : Fin 2048) (s : Fin 8 → ℝ) (a b : Fin 8),
    p.val = n / 8 * 512 + r.val → (∀ e, (inputs m c).score p e = s e) → IsTop2 s a b →
    (∀ e, (outsAt0 m c n hn).2 (ix2 r (lane e)) = gate s a b e)
      ∧ ∀ l, (outsAt0 m c n hn).1 (ix2 r l) = ∑ k ∈ Finset.range (n % 8 + 1), term m c s a b p l k := by
  induction n using Nat.strong_induction_on with
  | _ n ih =>
    intro hn r p s a b hp hs h
    have he : n % 8 < 8 := Nat.mod_lt _ (by decide)
    have hcoord := coord ⟨n, hn⟩
    by_cases h0 : n % 8 = 0
    · have hw := first_wall m c ⟨n, hn⟩ h0
      have hg : ∀ e, wallBlk m c ⟨n, hn⟩ (ix2 r (lane e)) = gate s a b e := fun e =>
        wall_apply (score_lanes m c ⟨n, hn⟩ r p hp hs) h e
      refine ⟨fun e => (congrFun hw _).trans (hg e), fun l => ?_⟩
      refine (congrFun (first_out m c ⟨n, hn⟩ h0) _).trans ?_
      rw [Block.add_apply, zero_apply, pick_apply _ _ _ ⟨n % 8, he⟩ hcoord, hg, net_apply m c ⟨n, hn⟩ r l p hp ⟨n % 8, he⟩ rfl, zero_add,
        ← term_eq m c s a b p l ⟨n % 8, he⟩ _ rfl]
      simp only [h0, zero_add, Finset.sum_range_one]
    · have ht : n - 1 < cfg0.N := by omega
      obtain ⟨ihw, iho⟩ := ih (n - 1) (by omega) ht r p s a b (by omega) hs h
      have hw := later_wall m c ⟨n, hn⟩ h0 ht
      refine ⟨fun e => (congrFun hw _).trans (ihw e), fun l => ?_⟩
      refine (congrFun (later_out m c ⟨n, hn⟩ h0 ht) _).trans ?_
      rw [Block.add_apply, pick_apply _ _ _ ⟨n % 8, he⟩ hcoord, net_apply m c ⟨n, hn⟩ r l p hp ⟨n % 8, he⟩ rfl, Finset.sum_range_succ,
        term_eq m c s a b p l ⟨n % 8, he⟩ _ rfl]
      refine congrArg₂ (· + ·) ?_ (congrArg (· * _) (ihw _))
      refine (iho l).trans ?_
      rw [show (n - 1) % 8 + 1 = n % 8 from by omega]

/-- THE KERNEL'S RESULT at token `p`, coordinate `l`. -/
theorem result_apply (p : Fin 2048) (l : Fin 1024) (s : Fin 8 → ℝ) (a b : Fin 8) (hs : ∀ e, (inputs m c).score p e = s e)
    (h : IsTop2 s a b) : Cert.KernelIdeal.Value.G7 m c (ix2 p l) = (inputs m c).result s a b p l := by
  have hp : p.val < 2048 := p.isLt
  have hl : l.val < 1024 := l.isLt
  have hpt : Cert.KernelIdeal.Value.pt7Of (ix2 p l) = 8 * (p.val / 512) + 7 := by
    show 8 * (1 * (p.val / 512 - 0) + 1 * (l.val / 1024 - 0)) + 7 = _
    omega
  have hN : cfg0.N = 32 := N_0
  have hlt : Cert.KernelIdeal.Value.pt7Of (ix2 p l) < cfg0.N := by omega
  have hloc : Cert.KernelIdeal.Value.loc7Of (ix2 p l) = ix2 ⟨p.val % 512, Nat.mod_lt _ (by decide)⟩ l := by
    funext x
    match x with
    | ⟨0, _⟩ => rfl
    | ⟨1, _⟩ => exact Fin.ext (Nat.mod_eq_of_lt hl)
  have key := (after m c _ hlt ⟨p.val % 512, Nat.mod_lt _ (by decide)⟩ p s a b
    (by rw [hpt]; show p.val = _ + p.val % 512; omega) hs h).2 l
  rw [show Cert.KernelIdeal.Value.pt7Of (ix2 p l) % 8 + 1 = 8 from by omega, Finset.sum_range] at key
  unfold Cert.KernelIdeal.Value.G7
  rw [dif_pos hlt, ← Cert.KernelIdeal.Value.outsAt0_sweep m c _ hlt, hloc]
  exact key.trans (Finset.sum_congr rfl fun e _ => term_eq m c s a b p l e _ rfl)

end Cert.Proof.KernelValue

end
-- ==== Proof.RefExpert.lean ====
/-
  One expert's contribution in the reference, as a function of the expert: the weight that the two choices give it, summed
  over both choices, times its network. Read at an entry.
-/
module

public import proofs.«01_k».proof.Proof.Weights
public import proofs.«01_k».proof.Proof.Model
public import proofs.«01_k».proof.Proof.Gen.ReferenceIdeal
public import Idealize.ShloMosaic.Lib.Pointwise

@[expose] public section

set_option maxRecDepth 16384

noncomputable section

namespace Cert.Proof.RefExpert

open Cert.ReferenceIdeal Cert.ReferenceIdeal.Gen Idealize.ShloMosaic Idealize.ShloMosaic.Pointwise
open Cert.Proof.TopTwo Cert.Proof.Weights Cert.Proof.Model

/-- The reference's seven arrays. -/
structure Arrays where
  x : FVec Ideal S1x2048x1024 .f32
  w1 : FVec Ideal S8x4096x1024 .f32
  b1 : FVec Ideal S8x4096 .f32
  w2 : FVec Ideal S8x1024x4096 .f32
  b2 : FVec Ideal S8x1024 .f32
  wg : FVec Ideal S8x1024 .f32
  bg : FVec Ideal S8 .f32

/-- They as the model's inputs. -/
def Arrays.inputs (A : Arrays) : Inputs where
  x p k := A.x (ix3 0 p k)
  w1 e h k := A.w1 (ix3 e h k)
  b1 e h := A.b1 (ix2 e h)
  w2 e l h := A.w2 (ix3 e l h)
  b2 e l := A.b2 (ix2 e l)
  wg e k := A.wg (ix2 e k)
  bg e := A.bg (ix1 e)

/-- The weight of the expert whose number is the word `w`: each choice's probability where the choice is this expert,
    summed over the choices. -/
def weight (vals : FVec Ideal S1x2048x2 .f32) (idxs : IVec S1x2048x2 32) (w : BitVec 32) : FVec Ideal S1x2048 .f32 :=
  Host.reduceAdd
    (select (cmpi .eq idxs (broadcastInDim S1x2048x2 ![] bcast_S_S1x2048x2 (constantI S_ 32 w))) vals
      (broadcastInDim S1x2048x2 ![] bcast_S_S1x2048x2 (id (constant S_ .f32 0x00000000#32))))
    (constant S_ .f32 0x00000000#32) reducesTo_S1x2048x2_S1x2048_d2 h_S_

/-- The network of the expert whose slices start at `o`. -/
def net (A : Arrays) (o : ℕ) (h1 : S8x4096x1024.Slices ![o, 0, 0] S1x4096x1024) (h2 : S8x4096.Slices ![o, 0] S1x4096)
    (h3 : S8x1024x4096.Slices ![o, 0, 0] S1x1024x4096) (h4 : S8x1024.Slices ![o, 0] S1x1024) :
    FVec Ideal S1x2048x1024 .f32 :=
  addf
    (Host.dotGeneral dot_S1x2048x4096_S1024x4096_S1x2048x1024_2_1_01_0_n_n none
      (maximumf
        (addf
          (Host.dotGeneral dot_S1x2048x1024_S4096x1024_S1x2048x4096_2_1_01_0_n_n none A.x
            (shapeCast S4096x1024 (extractStridedSlice S1x4096x1024 ![o, 0, 0] A.w1 h1) shapeCasts_S1x4096x1024_S4096x1024))
          (broadcastInDim S1x2048x4096 ![0, 1, 2] bcast_S1x1x4096_S1x2048x4096_0_1_2
            (broadcastInDim S1x1x4096 ![2] bcast_S4096_S1x1x4096_2
              (shapeCast S4096 (extractStridedSlice S1x4096 ![o, 0] A.b1 h2) shapeCasts_S1x4096_S4096))))
        (broadcastInDim S1x2048x4096 ![] bcast_S_S1x2048x4096 (constant S_ .f32 0x00000000#32)))
      (shapeCast S1024x4096 (extractStridedSlice S1x1024x4096 ![o, 0, 0] A.w2 h3) shapeCasts_S1x1024x4096_S1024x4096))
    (broadcastInDim S1x2048x1024 ![0, 1, 2] bcast_S1x1x1024_S1x2048x1024_0_1_2
      (broadcastInDim S1x1x1024 ![2] bcast_S1024_S1x1x1024_2
        (shapeCast S1024 (extractStridedSlice S1x1024 ![o, 0] A.b2 h4) shapeCasts_S1x1024_S1024)))

/-- Weight times network. -/
def part (w : FVec Ideal S1x2048 .f32) (y : FVec Ideal S1x2048x1024 .f32) : FVec Ideal S1x2048x1024 .f32 :=
  mulf
    (broadcastInDim S1x2048x1024 ![0, 1, 2] bcast_S1x2048x1_S1x2048x1024_0_1_2
      (broadcastInDim S1x2048x1 ![0, 1] bcast_S1x2048_S1x2048x1_0_1 w)) y

theorem part_apply (w : FVec Ideal S1x2048 .f32) (y : FVec Ideal S1x2048x1024 .f32) (p : Fin 2048) (l : Fin 1024) :
    part w y (ix3 0 p l) = w (ix2 0 p) * y (ix3 0 p l) := by
  pointwise [part]

/-- The network at an entry. -/
theorem net_apply (A : Arrays) (e : Fin 8) (h1 : S8x4096x1024.Slices ![e.val, 0, 0] S1x4096x1024)
    (h2 : S8x4096.Slices ![e.val, 0] S1x4096) (h3 : S8x1024x4096.Slices ![e.val, 0, 0] S1x1024x4096)
    (h4 : S8x1024.Slices ![e.val, 0] S1x1024) (p : Fin 2048) (l : Fin 1024) :
    net A e.val h1 h2 h3 h4 (ix3 0 p l) = A.inputs.net p e l := by
  pointwise [net]
  rfl

/-- The weight at a token whose choices are known. -/
theorem weight_apply {vals : FVec Ideal S1x2048x2 .f32} {idxs : IVec S1x2048x2 32} {p : Fin 2048} {s : Fin 8 → ℝ}
    {a b : Fin 8} (hv : ∀ i : Fin 2, vals (ix3 0 p i)
      = Ideal.div (Ideal.exp ((s (![a, b] i) : EReal) - (s a : EReal))) (total s a))
    (hi : ∀ i : Fin 2, idxs (ix3 0 p i) = BitVec.ofNat 32 (![a, b] i).val) (e : Fin 8) :
    weight vals idxs (BitVec.ofNat 32 e.val) (ix2 0 p) = gate s a b e := by
  pointwise [weight]
  have zero : (id (constant S_ .f32 0x00000000#32 : FVec Ideal S_ .f32)) ix0 = (0 : EReal) := by
    pointwise [id]
  have step : ∀ i : Fin 2, Scalar.select (IntOp.cmpi .eq (idxs (ix3 0 p i)) (BitVec.ofNat 32 e.val)) (vals (ix3 0 p i))
      (id (constant S_ .f32 0x00000000#32 : FVec Ideal S_ .f32) ix0)
      = if e = ![a, b] i then Ideal.div (Ideal.exp ((s (![a, b] i) : EReal) - (s a : EReal))) (total s a) else 0 := fun i => by
    rw [hv, hi, select_eq (by omega) (by omega), zero]
    simp only [Fin.ext_iff, eq_comm]
  have key : ∑ i : Fin 2, (if e = ![a, b] i
      then Ideal.div (Ideal.exp ((s (![a, b] i) : EReal) - (s a : EReal))) (total s a) else (0 : EReal)) = gate s a b e := by
    rw [Fin.sum_univ_two]
    simp only [Matrix.cons_val_zero, Matrix.cons_val_one, prob_first, gate]
    rfl
  exact (Finset.sum_congr rfl fun i _ => step i).trans key

end Cert.Proof.RefExpert

end
-- ==== Proof.RefRouter.lean ====
/-
  The reference's router at a token: the scores, their probabilities, and what its selection of the two most probable
  experts returns — the probabilities and the numbers of the first and the second expert by score.
-/
module

public import proofs.«01_k».proof.Proof.RefExpert
public import proofs.«01_k».proof.Proof.Gen.ReferenceIdeal.Run

@[expose] public section

set_option maxRecDepth 16384

noncomputable section

namespace Cert.Proof.RefRouter

open Cert.ReferenceIdeal Cert.ReferenceIdeal.Gen Cert.ReferenceIdeal.Value Idealize.ShloMosaic Idealize.ShloMosaic.Pointwise
open Idealize.ShloMosaic.StableHlo
open Cert.Proof.TopTwo Cert.Proof.Weights Cert.Proof.Model Cert.Proof.RefExpert

/-- The arrays that the reference's buffers hold. -/
def arrays (V : Valuation τ sig (Elt Ideal)) : Arrays where
  x := V (Proc.devRef .tc main_arg0)
  w1 := V (Proc.devRef .tc main_arg1)
  b1 := V (Proc.devRef .tc main_arg2)
  w2 := V (Proc.devRef .tc main_arg3)
  b2 := V (Proc.devRef .tc main_arg4)
  wg := V (Proc.devRef .tc main_arg5)
  bg := V (Proc.devRef .tc main_arg6)

variable (V : Valuation τ sig (Elt Ideal)) {p : Fin 2048} {s : Fin 8 → ℝ} {a b : Fin 8}

/-- The word of the constant −∞. -/
theorem negInf : Ideal.ofBits FTy.f32 4286578688#32 = ⊥ := by simp [Ideal.ofBits, Ideal.ieee]

/-- The scores. -/
theorem score_apply (p : Fin 2048) (e : Fin 8) : res_main_v3 V (ix3 0 p e) = (arrays V).inputs.score p e := by
  pointwise [res_main_v3]
  rfl

/-- The numerators over a row of scores: their maximum, from −∞, is the first score. -/
theorem exp_row (v : FVec Ideal S1x2048x8 .f32) (hv : ∀ e, v (ix3 0 p e) = (s e : EReal)) (h : IsTop2 s a b) (e : Fin 8) :
    Host.exp (subf v (broadcastInDim S1x2048x8 ![0, 1, 2] bcast_S1x2048x1_S1x2048x8_0_1_2
      (broadcastInDim S1x2048x1 ![0, 1] bcast_S1x2048_S1x2048x1_0_1
        (maximumf (broadcastInDim S1x2048 ![] bcast_S_S1x2048 (constant S_ .f32 0xFF800000#32))
          (Host.reduce FloatOps.maximumf v (constant S_ .f32 0xFF800000#32) reducesTo_S1x2048x8_S1x2048_d2 h_S_)))))
      (ix3 0 p e) = Ideal.exp ((s e : EReal) - (s a : EReal)) := by
  pointwise
  simp only [hv, negInf]
  rw [fold_max_eq (fun e : Fin 8 => (s e : EReal)) a fun e => EReal.coe_le_coe_iff.mpr (h.le_a e), max_eq_right bot_le]

/-- A tensor sorted along its last axis and cut to two: entry `i` comes from the place that the sort gives it, and so does
    its position. -/
theorem topK_apply (gt : EReal → EReal → BitVec 1) (v : S1x2048x8.Idx → EReal) (p : Fin 2048) (i : Fin 2) :
    (Host.topK S1x2048x2 2 gt v sliceFits_S1x2048x8_S1x2048x2).1 (ix3 0 p i)
        = v (ix3 0 p (sortedFrom (fun k k' : Fin 8 => gt (v (ix3 0 p k)) (v (ix3 0 p k')) == 1#1) (i.castLE (by decide))))
    ∧ (Host.topK S1x2048x2 2 gt v sliceFits_S1x2048x8_S1x2048x2).2 (ix3 0 p i)
        = BitVec.ofNat 32
            (sortedFrom (fun k k' : Fin 8 => gt (v (ix3 0 p k)) (v (ix3 0 p k')) == 1#1) (i.castLE (by decide))).val := by
  have along : ∀ (j k : Fin 8), (ix3 0 p j : S1x2048x8.Idx).along 2 k = ix3 0 p k := fun j k => by
    funext q
    fin_cases q <;> rfl
  have start : (fun q : Fin S1x2048x8.rank => (⟨0 + ((ix3 0 p i : S1x2048x2.Idx) (q.cast rfl)).val,
      Nat.lt_of_lt_of_le (Nat.add_lt_add_left (Fin.isLt _) _) (sliceFits_S1x2048x8_S1x2048x2.2 q)⟩ : Fin (S1x2048x8.size q)))
      = (ix3 0 p (i.castLE (by decide)) : S1x2048x8.Idx) := by
    funext q
    fin_cases q <;> exact Fin.ext (Nat.zero_add _)
  have order : (fun k k' : Fin 8 => gt (v ((ix3 0 p (i.castLE (by decide)) : S1x2048x8.Idx).along 2 k))
      (v ((ix3 0 p (i.castLE (by decide)) : S1x2048x8.Idx).along 2 k')) == 1#1)
      = fun k k' => gt (v (ix3 0 p k)) (v (ix3 0 p k')) == 1#1 := by
    funext k k'
    rw [along, along]
  unfold Host.topK Host.sort2 extractStridedSlice
  simp only [start]
  constructor
  · rw [dif_pos (by decide)]
    exact (congrArg v (along _ _)).trans (congrArg (fun r : Fin 8 → Fin 8 → Bool => v (ix3 0 p (sortedFrom r _))) order)
  · rw [dif_pos (by decide)]
    exact congrArg (fun r : Fin 8 → Fin 8 → Bool => BitVec.ofNat 32 (sortedFrom r (i.castLE (by decide))).val) order

variable (hs : ∀ e, (arrays V).inputs.score p e = s e) (h : IsTop2 s a b)
include hs h

/-- The numerators of the probabilities. -/
theorem exp_apply (e : Fin 8) : res_main_v10 V (ix3 0 p e) = Ideal.exp ((s e : EReal) - (s a : EReal)) :=
  exp_row (res_main_v3 V) (fun e => (score_apply V p e).trans (hs e)) h e

/-- The probabilities. -/
theorem prob_apply (e : Fin 8) :
    res_main_v14 V (ix3 0 p e) = Ideal.div (Ideal.exp ((s e : EReal) - (s a : EReal))) (total s a) := by
  pointwise [res_main_v14]
  simp only [exp_apply V hs h]
  rfl

/-- The order by probability takes its first two entries from the first and the second expert by score. -/
theorem order_apply (i : Fin 2) :
    sortedFrom (fun k k' : Fin 8 => FloatOps.cmpfTotal (F := Ideal) (φ := .f32) .gt (res_main_v14 V (ix3 0 p k)) (res_main_v14 V (ix3 0 p k')) == 1#1)
      (i.castLE (by decide)) = ![a, b] i := by
  rw [← sortedFrom_prefix h i]
  congr 1
  funext k k'
  rw [prob_apply V hs h, prob_apply V hs h]
  show (BitVec.ofBool (decide _) == 1#1) = decide _
  rw [decide_eq_decide.mpr (prob_lt s a k k')]
  cases decide (s k' < s k) <;> rfl

/-- The selected probabilities. -/
theorem values_apply (i : Fin 2) : res_main_values V (ix3 0 p i)
    = Ideal.div (Ideal.exp ((s (![a, b] i) : EReal) - (s a : EReal))) (total s a) := by
  rw [← prob_apply V hs h, ← order_apply V hs h i]
  exact (topK_apply _ (res_main_v14 V) p i).1

/-- The selected experts. -/
theorem indices_apply (i : Fin 2) : res_main_indices V (ix3 0 p i) = BitVec.ofNat 32 (![a, b] i).val := by
  rw [← order_apply V hs h i]
  exact (topK_apply _ (res_main_v14 V) p i).2

end Cert.Proof.RefRouter

end
-- ==== Proof.RefValue.lean ====
/-
  The reference's result at an entry is the model's result: the eight experts' contributions, added up in order from zero.
-/
module

public import proofs.«01_k».proof.Proof.RefRouter

@[expose] public section

set_option maxRecDepth 16384

noncomputable section

namespace Cert.Proof.RefValue

open Cert.ReferenceIdeal Cert.ReferenceIdeal.Gen Cert.ReferenceIdeal.Value Idealize.ShloMosaic Idealize.ShloMosaic.Pointwise
open Idealize.ShloMosaic.StableHlo
open Cert.Proof.TopTwo Cert.Proof.Weights Cert.Proof.Model Cert.Proof.RefExpert Cert.Proof.RefRouter

/-- An expert's slice of a tensor with one row per expert lies inside it. -/
theorem fits1 (e : Fin 8) : S8x4096x1024.Slices ![e.val, 0, 0] S1x4096x1024 := by revert e; decide
theorem fits2 (e : Fin 8) : S8x4096.Slices ![e.val, 0] S1x4096 := by revert e; decide
theorem fits3 (e : Fin 8) : S8x1024x4096.Slices ![e.val, 0, 0] S1x1024x4096 := by revert e; decide
theorem fits4 (e : Fin 8) : S8x1024.Slices ![e.val, 0] S1x1024 := by revert e; decide

variable (V : Valuation τ sig (Elt Ideal))

/-- What expert `e` adds. -/
def contribution (e : Fin 8) : FVec Ideal S1x2048x1024 .f32 :=
  part (weight (res_main_values V) (res_main_indices V) (BitVec.ofNat 32 e.val))
    (net (arrays V) e.val (fits1 e) (fits2 e) (fits3 e) (fits4 e))

/-- The sum of the first `n` contributions, from zero. -/
def upTo : (n : ℕ) → n ≤ 8 → FVec Ideal S1x2048x1024 .f32
  | 0, _ => broadcastInDim S1x2048x1024 ![] bcast_S_S1x2048x1024 (constant S_ .f32 0x00000000#32)
  | n + 1, h => addf (upTo n (by omega)) (contribution V ⟨n, h⟩)

/-- The reference's result. -/
def result : FVec Ideal S2048x1024 .f32 := shapeCast S2048x1024 (upTo V 8 le_rfl) shapeCasts_S1x2048x1024_S2048x1024

/-- The first three contributions. -/
theorem first_part : res_main_v90 V = upTo V 3 (by decide) := rfl

/-- The first six. -/
theorem second_part : res_main_v165 V = upTo V 6 (by decide) :=
  (congrArg (fun y => addf (addf (addf y (contribution V 3)) (contribution V 4)) (contribution V 5)) (first_part V) :)

variable {V} {p : Fin 2048} {s : Fin 8 → ℝ} {a b : Fin 8}
variable (hs : ∀ e, (arrays V).inputs.score p e = s e) (h : IsTop2 s a b)
include hs h

/-- A contribution at an entry. -/
theorem contribution_apply (e : Fin 8) (l : Fin 1024) :
    contribution V e (ix3 0 p l) = gate s a b e * (arrays V).inputs.net p e l := by
  unfold contribution
  rw [part_apply, weight_apply (values_apply V hs h) (indices_apply V hs h) e, net_apply]

/-- The result at an entry. -/
theorem result_apply (l : Fin 1024) : result V (ix2 p l) = (arrays V).inputs.result s a b p l := by
  have zero : (broadcastInDim S1x2048x1024 ![] bcast_S_S1x2048x1024 (constant S_ .f32 0x00000000#32 : FVec Ideal S_ .f32))
      (ix3 0 p l) = (0 : EReal) := by
    pointwise
  have step : ∀ (y : FVec Ideal S1x2048x1024 .f32) (e : Fin 8), addf y (contribution V e) (ix3 0 p l)
      = y (ix3 0 p l) + gate s a b e * (arrays V).inputs.net p e l := fun y e => by
    pointwise
    rw [contribution_apply hs h]
  pointwise [result]
  simp only [upTo, step, zero]
  unfold Inputs.result
  rw [Fin.sum_univ_eight, zero_add]
  rfl

end Cert.Proof.RefValue

end
-- ==== Proof.Agree.lean ====
/-
  Kernel and reference, started from the same arguments with a finite router, leave the same result.
-/
module

public import proofs.«01_k».proof.Defs
public import proofs.«01_k».proof.Proof.Finite
public import proofs.«01_k».proof.Proof.KernelValue
public import proofs.«01_k».proof.Proof.RefValue

@[expose] public section

set_option maxRecDepth 16384

noncomputable section

namespace Cert.Proof.Agree

open Idealize.ShloMosaic Idealize.ShloMosaic.TcCoe Idealize.ShloMosaic.Pointwise Idealize.SL.Sem
open Cert.Proof.TopTwo Cert.Proof.Model

attribute [local instance] Cert.Proof.Finite.facts

/-- Under the precondition the model's router is finite. -/
theorem finite (m : (ℓ : Loc Cert.KernelIdeal.nD Cert.KernelIdeal.τ Cert.KernelIdeal.sig) → Buf (Elt Ideal) ℓ)
    (hpre : Cert.Pre_KernelIdeal_router_finite m) (c : Dev Cert.KernelIdeal.nD) :
    (KernelValue.inputs m c).Finite where
  x p k := Finite.real_of (Blocks.argX m c) (hpre c).1 (hpre c).2.1 _
  wg e k := Finite.real_of (Blocks.argWg m c) (hpre c).2.2.1 (hpre c).2.2.2.1 _
  bg e := Finite.real_of (Blocks.argBg m c) (hpre c).2.2.2.2.1 (hpre c).2.2.2.2.2 _

/-- THE TWO RESULTS ARE EQUAL where the reference's arrays read as the kernel's inputs. -/
theorem result_eq (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    (hI : (KernelValue.inputs m c).Finite) (hV : (RefRouter.arrays V).inputs = KernelValue.inputs m c) :
    RefValue.result V = Cert.KernelIdeal.Value.G7 m c := by
  funext i
  have hi : i = ix2 (i 0) (i 1) := by
    funext q
    fin_cases q <;> rfl
  obtain ⟨s, hs⟩ := hI.score (i 0)
  obtain ⟨a, b, h⟩ := exists_top2 s
  rw [hi]
  refine Eq.trans ?_ (KernelValue.result_apply m c (i 0) (i 1) s a b hs h).symm
  rw [← hV] at hs ⊢
  exact RefValue.result_apply hs h (i 1)

/-- The value claim. -/
theorem algebraic : Cert.algebraic_KernelIdeal_ReferenceIdeal_pre_router_finite
    (hKernelIdeal := Cert.KernelIdeal.Gen.facts) (hReferenceIdeal := Cert.ReferenceIdeal.Gen.facts)
    (hPre_router_finite := Cert.Proof.Finite.facts) := by
  intro m g m' g' hpre hargs
  refine ⟨fun c => Cert.KernelIdeal.Value.G7 m c, Cert.KernelIdeal.Value.run m g,
    (θ_run (Cert.ReferenceIdeal.defs (F := Ideal)) _ _).mono (fun r h c => ⟨(h c).1.trans ?_, (h c).2⟩)
      (Cert.ReferenceIdeal.Value.run m' g')⟩
  refine Eq.trans (b := RefValue.result (StableHlo.launchContents m' c)) ?_
    (result_eq m c (StableHlo.launchContents m' c) (finite m hpre c) ?_)
  · unfold RefValue.result RefValue.upTo RefValue.upTo
    rw [RefValue.second_part]
    rfl
  · obtain ⟨h0, h1, h2, h3, h4, h5, h6⟩ := hargs c
    have e : RefRouter.arrays (StableHlo.launchContents m' c)
        = ⟨Blocks.argX m c, Blocks.argW1 m c, Blocks.argB1 m c, Blocks.argW2 m c, Blocks.argB2 m c, Blocks.argWg m c,
            Blocks.argBg m c⟩ := by
      unfold RefRouter.arrays
      congr 1
    rw [e]
    rfl

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs to an end, its arguments unchanged and its semaphores at zero. -/
theorem reference_frame : Cert.quiescent_ReferenceIdeal (hReferenceIdeal := Cert.ReferenceIdeal.Gen.facts) :=
  fun m ρ _ => (θ_run _ _ _).mono (fun r h => ⟨fun c => (h c).2, sem_eq_zero_of_no_sems rfl r.2⟩)
    (Cert.ReferenceIdeal.Value.run m ρ)

/-- All claims: the frames of the three programs, the ideal kernel's one named constant, and the value of the result. -/
theorem claim : Cert.Claim := ⟨Cert.Kernel.Gen.facts, Cert.KernelIdeal.Gen.facts, Cert.ReferenceIdeal.Gen.facts,
  Cert.Proof.Finite.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "mask" .f32 0xF149F2CA#32 ⊥ rfl,
  Agree.algebraic⟩

end Cert.Proof

end
